-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x128x128 : Shape := ⟨4, ![2, 64, 128, 128]⟩
abbrev S64x64x4x4 : Shape := ⟨4, ![64, 64, 4, 4]⟩
abbrev S64 : Shape := ⟨1, ![64]⟩
abbrev S_ : Shape := ⟨0, ![]⟩
abbrev S2x64x136x136 : Shape := ⟨4, ![2, 64, 136, 136]⟩
abbrev S64x64x16 : Shape := ⟨3, ![64, 64, 16]⟩
abbrev S64x16x64 : Shape := ⟨3, ![64, 16, 64]⟩
abbrev S64x1024 : Shape := ⟨2, ![64, 1024]⟩
abbrev S64x1 : Shape := ⟨2, ![64, 1]⟩
abbrev S1x64x136x136 : Shape := ⟨4, ![1, 64, 136, 136]⟩
abbrev S1x64x8x128 : Shape := ⟨4, ![1, 64, 8, 128]⟩
abbrev S64x16x136 : Shape := ⟨3, ![64, 16, 136]⟩
abbrev S1024x8x128 : Shape := ⟨3, ![1024, 8, 128]⟩
abbrev S1x64x16x136 : Shape := ⟨4, ![1, 64, 16, 136]⟩
abbrev S64x8x128 : Shape := ⟨3, ![64, 8, 128]⟩
abbrev S8x128 : Shape := ⟨2, ![8, 128]⟩
abbrev S1x8x128 : Shape := ⟨3, ![1, 8, 128]⟩
abbrev S1024x1x128 : Shape := ⟨3, ![1024, 1, 128]⟩
abbrev S1024x128 : Shape := ⟨2, ![1024, 128]⟩
abbrev S64x128 : Shape := ⟨2, ![64, 128]⟩
abbrev S1x64x1x128 : Shape := ⟨4, ![1, 64, 1, 128]⟩

abbrev nBuf : Space → Nat
  | .hbm => 11
  | .vmem => 8
  | .smem => 0
  | _ => 0

abbrev bufTy : (tb : Table) → Fin (tcTables nBuf tb) → BufTy
  | .hbm, ⟨0, _⟩ => ⟨S2x64x128x128, .f32⟩
  | .hbm, ⟨1, _⟩ => ⟨S64x64x4x4, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S2x64x136x136, .f32⟩
  | .hbm, ⟨6, _⟩ => ⟨S64x64x16, .f32⟩
  | .hbm, ⟨7, _⟩ => ⟨S64x16x64, .f32⟩
  | .hbm, ⟨8, _⟩ => ⟨S64x1024, .f32⟩
  | .hbm, ⟨9, _⟩ => ⟨S64x1, .f32⟩
  | .hbm, ⟨10, _⟩ => ⟨S2x64x128x128, .f32⟩
  | .local _ .vmem, ⟨0, _⟩ => ⟨S1x64x136x136, .f32⟩
  | .local _ .vmem, ⟨1, _⟩ => ⟨S1x64x136x136, .f32⟩
  | .local _ .vmem, ⟨2, _⟩ => ⟨S64x1024, .f32⟩
  | .local _ .vmem, ⟨3, _⟩ => ⟨S64x1, .f32⟩
  | .local _ .vmem, ⟨4, _⟩ => ⟨S1x64x8x128, .f32⟩
  | .local _ .vmem, ⟨5, _⟩ => ⟨S1x64x8x128, .f32⟩
  | .local _ .vmem, ⟨6, _⟩ => ⟨S64x16x136, .f32⟩
  | .local _ .vmem, ⟨7, _⟩ => ⟨S1024x8x128, .f32⟩
  | _, _ => ⟨S2x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) : Fin 4 → Nat :=
  let c0 : Index := 0#32
  let c0_0 : Index := 0#32
  let arg1 : BitVec 32 := BitVec.ofNat 32 (i 1).val
  let c8_i32 : BitVec 32 := 8#32
  let v0 : BitVec 32 := Scalar.muli arg1 c8_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x136x136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x64x128x128 : Shape := ⟨4, ![2, 64, 128, 128]⟩
abbrev S64x64x4x4 : Shape := ⟨4, ![64, 64, 4, 4]⟩
abbrev S64 : Shape := ⟨1, ![64]⟩
abbrev S1x32x9x1x1 : Shape := ⟨5, ![1, 32, 9, 1, 1]⟩
abbrev S_ : Shape := ⟨0, ![]⟩
abbrev S2x64x136x136 : Shape := ⟨4, ![2, 64, 136, 136]⟩
abbrev S128 : Shape := ⟨1, ![128]⟩
abbrev S128x128 : Shape := ⟨2, ![128, 128]⟩
abbrev S1x1x128x128 : Shape := ⟨4, ![1, 1, 128, 128]⟩
abbrev S1x16x128x128 : Shape := ⟨4, ![1, 16, 128, 128]⟩
abbrev S1x32x128x128 : Shape := ⟨4, ![1, 32, 128, 128]⟩
abbrev S2x32x128x128 : Shape := ⟨4, ![2, 32, 128, 128]⟩
abbrev S2x128x128x32 : Shape := ⟨4, ![2, 128, 128, 32]⟩
abbrev S2x128x128x16 : Shape := ⟨4, ![2, 128, 128, 16]⟩
abbrev S2x1x262144 : Shape := ⟨3, ![2, 1, 262144]⟩
abbrev S2x64x262144 : Shape := ⟨3, ![2, 64, 262144]⟩
abbrev S2x64x18496 : Shape := ⟨3, ![2, 64, 18496]⟩
abbrev S2x64x262144x1 : Shape := ⟨4, ![2, 64, 262144, 1]⟩
abbrev S1 : Shape := ⟨1, ![1]⟩
abbrev S1x1x1x1 : Shape := ⟨4, ![1, 1, 1, 1]⟩
abbrev S2x64x128x128x16 : Shape := ⟨5, ![2, 64, 128, 128, 16]⟩
abbrev S2x32x1x128x128 : Shape := ⟨5, ![2, 32, 1, 128, 128]⟩
abbrev S2x32x9x128x128 : Shape := ⟨5, ![2, 32, 9, 128, 128]⟩
abbrev S2x32x1152x128 : Shape := ⟨4, ![2, 32, 1152, 128]⟩
abbrev S2x1152x128x32 : Shape := ⟨4, ![2, 1152, 128, 32]⟩
abbrev S2x1152x128x16 : Shape := ⟨4, ![2, 1152, 128, 16]⟩
abbrev S2x1x2359296 : Shape := ⟨3, ![2, 1, 2359296]⟩
abbrev S2x64x2359296 : Shape := ⟨3, ![2, 64, 2359296]⟩
abbrev S2x64x2359296x1 : Shape := ⟨4, ![2, 64, 2359296, 1]⟩
abbrev S2x64x1152x128x16 : Shape := ⟨5, ![2, 64, 1152, 128, 16]⟩
abbrev S2x64x9x128x128x16 : Shape := ⟨6, ![2, 64, 9, 128, 128, 16]⟩
abbrev S2x64x1x128x128x16 : Shape := ⟨6, ![2, 64, 1, 128, 128, 16]⟩
abbrev S2x9x128x128x16 : Shape := ⟨5, ![2, 9, 128, 128, 16]⟩
abbrev S2x9x128x128 : Shape := ⟨4, ![2, 9, 128, 128]⟩
abbrev S2x128x128x9 : Shape := ⟨4, ![2, 128, 128, 9]⟩
abbrev S2x128x128x8 : Shape := ⟨4, ![2, 128, 128, 8]⟩
abbrev S2x128x128 : Shape := ⟨3, ![2, 128, 128]⟩
abbrev S2x128x128x1 : Shape := ⟨4, ![2, 128, 128, 1]⟩
abbrev S2x128x128x1x1 : Shape := ⟨5, ![2, 128, 128, 1, 1]⟩
abbrev S1x1x1x1x1 : Shape := ⟨5, ![1, 1, 1, 1, 1]⟩
abbrev S2x1x128x128 : Shape := ⟨4, ![2, 1, 128, 128]⟩
abbrev S9 : Shape := ⟨1, ![9]⟩
abbrev S1x9x1x1 : Shape := ⟨4, ![1, 9, 1, 1]⟩
abbrev S2x1x9x128x128 : Shape := ⟨5, ![2, 1, 9, 128, 128]⟩
abbrev S64x64x16 : Shape := ⟨3, ![64, 64, 16]⟩
abbrev S64x2x128x128 : Shape := ⟨4, ![64, 2, 128, 128]⟩
abbrev S1x64x1x1 : Shape := ⟨4, ![1, 64, 1, 1]⟩

abbrev nBuf : Space → Nat
  | .hbm => 228
  | .vmem => 0
  | .smem => 0
  | _ => 0

abbrev hbmTy0_0 (i : Nat) : BufTy := match i % 128 with
  | 0 => ⟨S2x64x128x128, .f32⟩
  | 1 => ⟨S64x64x4x4, .f32⟩
  | 2 => ⟨S64, .f32⟩
  | 3 => ⟨S1x32x9x1x1, .f32⟩
  | 4 => ⟨S_, .i32⟩
  | 5 => ⟨S_, .f32⟩
  | 6 => ⟨S2x64x136x136, .f32⟩
  | 7 => ⟨S128, .i32⟩
  | 8 => ⟨S_, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S128x128, .i32⟩
  | 16 => ⟨S128x128, .i32⟩
  | 17 => ⟨S1x1x128x128, .i32⟩
  | 18 => ⟨S1x16x128x128, .i32⟩
  | 19 => ⟨S1x1x128x128, .i32⟩
  | 20 => ⟨S1x16x128x128, .i32⟩
  | 21 => ⟨S1x32x128x128, .i32⟩
  | 22 => ⟨S1x32x128x128, .f32⟩
  | 23 => ⟨S2x32x128x128, .f32⟩
  | 24 => ⟨S2x128x128x32, .f32⟩
  | 25 => ⟨S2x128x128x32, .f32⟩
  | 26 => ⟨S2x128x128x16, .f32⟩
  | 27 => ⟨S_, .f32⟩
  | 28 => ⟨S2x128x128x16, .f32⟩
  | 29 => ⟨S2x128x128x16, .f32⟩
  | 30 => ⟨S2x128x128x16, .f32⟩
  | 31 => ⟨S2x128x128x16, .f32⟩
  | 32 => ⟨S2x128x128x16, .i32⟩
  | 33 => ⟨S2x1x262144, .i32⟩
  | 34 => ⟨S2x64x262144, .i32⟩
  | 35 => ⟨S2x64x18496, .f32⟩
  | 36 => ⟨S_, .i32⟩
  | 37 => ⟨S2x64x262144, .i32⟩
  | 38 => ⟨S2x64x262144, .i1⟩
  | 39 => ⟨S_, .i32⟩
  | 40 => ⟨S2x64x262144, .i32⟩
  | 41 => ⟨S2x64x262144, .i32⟩
  | 42 => ⟨S2x64x262144, .i32⟩
  | 43 => ⟨S2x64x262144x1, .i32⟩
  | 44 => ⟨S1, .i32⟩
  | 45 => ⟨S_, .i32⟩
  | 46 => ⟨S2x64x262144x1, .i32⟩
  | 47 => ⟨S2x64x262144x1, .i1⟩
  | 48 => ⟨S1x1x1x1, .i32⟩
  | 49 => ⟨S2x64x262144x1, .i32⟩
  | 50 => ⟨S2x64x262144x1, .i1⟩
  | 51 => ⟨S2x64x262144x1, .i1⟩
  | 52 => ⟨S_, .i1⟩
  | 53 => ⟨S2x64x262144, .i1⟩
  | 54 => ⟨S2x64x262144, .f32⟩
  | 55 => ⟨S_, .f32⟩
  | 56 => ⟨S2x64x262144, .f32⟩
  | 57 => ⟨S2x64x262144, .f32⟩
  | 58 => ⟨S2x64x128x128x16, .f32⟩
  | 59 => ⟨S2x32x1x128x128, .f32⟩
  | 60 => ⟨S2x32x9x128x128, .f32⟩
  | 61 => ⟨S2x32x9x128x128, .f32⟩
  | 62 => ⟨S2x32x9x128x128, .f32⟩
  | 63 => ⟨S2x32x1152x128, .f32⟩
  | 64 => ⟨S2x1152x128x32, .f32⟩
  | 65 => ⟨S2x1152x128x32, .f32⟩
  | 66 => ⟨S2x1152x128x16, .f32⟩
  | 67 => ⟨S_, .f32⟩
  | 68 => ⟨S2x1152x128x16, .f32⟩
  | 69 => ⟨S2x1152x128x16, .f32⟩
  | 70 => ⟨S2x1152x128x16, .f32⟩
  | 71 => ⟨S2x1152x128x16, .f32⟩
  | 72 => ⟨S2x1152x128x16, .i32⟩
  | 73 => ⟨S2x1x2359296, .i32⟩
  | 74 => ⟨S2x64x2359296, .i32⟩
  | 75 => ⟨S2x64x18496, .f32⟩
  | 76 => ⟨S_, .i32⟩
  | 77 => ⟨S2x64x2359296, .i32⟩
  | 78 => ⟨S2x64x2359296, .i1⟩
  | 79 => ⟨S_, .i32⟩
  | 80 => ⟨S2x64x2359296, .i32⟩
  | 81 => ⟨S2x64x2359296, .i32⟩
  | 82 => ⟨S2x64x2359296, .i32⟩
  | 83 => ⟨S2x64x2359296x1, .i32⟩
  | 84 => ⟨S1, .i32⟩
  | 85 => ⟨S_, .i32⟩
  | 86 => ⟨S2x64x2359296x1, .i32⟩
  | 87 => ⟨S2x64x2359296x1, .i1⟩
  | 88 => ⟨S1x1x1x1, .i32⟩
  | 89 => ⟨S2x64x2359296x1, .i32⟩
  | 90 => ⟨S2x64x2359296x1, .i1⟩
  | 91 => ⟨S2x64x2359296x1, .i1⟩
  | 92 => ⟨S_, .i1⟩
  | 93 => ⟨S2x64x2359296, .i1⟩
  | 94 => ⟨S2x64x2359296, .f32⟩
  | 95 => ⟨S_, .f32⟩
  | 96 => ⟨S2x64x2359296, .f32⟩
  | 97 => ⟨S2x64x2359296, .f32⟩
  | 98 => ⟨S2x64x1152x128x16, .f32⟩
  | 99 => ⟨S2x64x9x128x128x16, .f32⟩
  | 100 => ⟨S2x64x1x128x128x16, .f32⟩
  | 101 => ⟨S2x64x9x128x128x16, .f32⟩
  | 102 => ⟨S2x64x9x128x128x16, .f32⟩
  | 103 => ⟨S_, .f32⟩
  | 104 => ⟨S2x9x128x128x16, .f32⟩
  | 105 => ⟨S_, .f32⟩
  | 106 => ⟨S2x9x128x128x16, .f32⟩
  | 107 => ⟨S2x9x128x128x16, .f32⟩
  | 108 => ⟨S2x9x128x128x16, .f32⟩
  | 109 => ⟨S2x9x128x128x16, .f32⟩
  | 110 => ⟨S_, .f32⟩
  | 111 => ⟨S2x9x128x128x16, .f32⟩
  | 112 => ⟨S2x9x128x128x16, .f32⟩
  | 113 => ⟨S_, .f32⟩
  | 114 => ⟨S2x9x128x128x16, .f32⟩
  | 115 => ⟨S2x9x128x128x16, .f32⟩
  | 116 => ⟨S_, .f32⟩
  | 117 => ⟨S2x9x128x128, .f32⟩
  | 118 => ⟨S_, .f32⟩
  | 119 => ⟨S2x9x128x128, .f32⟩
  | 120 => ⟨S2x9x128x128, .f32⟩
  | 121 => ⟨S2x128x128x9, .f32⟩
  | 122 => ⟨S2x128x128x9, .i32⟩
  | 123 => ⟨S2x128x128x9, .f32⟩
  | 124 => ⟨S2x128x128x9, .i32⟩
  | 125 => ⟨S2x128x128x9, .f32⟩
  | 126 => ⟨S2x128x128x8, .f32⟩
  | 127 => ⟨S2x128x128x8, .f32⟩
  | _ => ⟨S2x64x128x128, .f32⟩

abbrev hbmTy0_1 (i : Nat) : BufTy := match i % 128 with
  | 0 => ⟨S2x128x128x8, .f32⟩
  | 1 => ⟨S2x128x128x8, .i32⟩
  | 2 => ⟨S_, .f32⟩
  | 3 => ⟨S_, .i32⟩
  | 4 => ⟨S2x128x128, .f32⟩
  | 5 => ⟨S2x128x128, .i32⟩
  | 6 => ⟨S_, .f32⟩
  | 7 => ⟨S2x128x128, .f32⟩
  | 8 => ⟨S2x128x128x1, .i32⟩
  | 9 => ⟨S_, .i32⟩
  | 10 => ⟨S2x128x128x1, .i32⟩
  | 11 => ⟨S2x128x128x1, .i1⟩
  | 12 => ⟨S_, .i32⟩
  | 13 => ⟨S2x128x128x1, .i32⟩
  | 14 => ⟨S2x128x128x1, .i32⟩
  | 15 => ⟨S2x128x128x1, .i32⟩
  | 16 => ⟨S2x128x128x1x1, .i32⟩
  | 17 => ⟨S1, .i32⟩
  | 18 => ⟨S_, .i32⟩
  | 19 => ⟨S2x128x128x1x1, .i32⟩
  | 20 => ⟨S2x128x128x1x1, .i1⟩
  | 21 => ⟨S1x1x1x1x1, .i32⟩
  | 22 => ⟨S2x128x128x1x1, .i32⟩
  | 23 => ⟨S2x128x128x1x1, .i1⟩
  | 24 => ⟨S2x128x128x1x1, .i1⟩
  | 25 => ⟨S_, .i1⟩
  | 26 => ⟨S2x128x128x1, .i1⟩
  | 27 => ⟨S2x128x128x1, .i32⟩
  | 28 => ⟨S_, .i32⟩
  | 29 => ⟨S2x128x128x1, .i32⟩
  | 30 => ⟨S2x128x128x1, .i32⟩
  | 31 => ⟨S2x128x128, .i32⟩
  | 32 => ⟨S_, .f32⟩
  | 33 => ⟨S2x128x128, .f32⟩
  | 34 => ⟨S2x128x128, .i1⟩
  | 35 => ⟨S2x128x128, .i32⟩
  | 36 => ⟨S2x128x128, .i32⟩
  | 37 => ⟨S_, .i32⟩
  | 38 => ⟨S2x128x128, .i32⟩
  | 39 => ⟨S_, .i32⟩
  | 40 => ⟨S2x128x128, .i32⟩
  | 41 => ⟨S2x128x128, .i32⟩
  | 42 => ⟨S2x128x128, .i1⟩
  | 43 => ⟨S2x128x128, .i32⟩
  | 44 => ⟨S2x128x128, .i32⟩
  | 45 => ⟨S2x128x128, .i32⟩
  | 46 => ⟨S2x1x128x128, .i32⟩
  | 47 => ⟨S9, .i32⟩
  | 48 => ⟨S1x9x1x1, .i32⟩
  | 49 => ⟨S2x9x128x128, .i32⟩
  | 50 => ⟨S2x9x128x128, .i32⟩
  | 51 => ⟨S2x9x128x128, .i1⟩
  | 52 => ⟨S2x9x128x128, .f32⟩
  | 53 => ⟨S2x1x9x128x128, .f32⟩
  | 54 => ⟨S2x32x9x128x128, .f32⟩
  | 55 => ⟨S2x32x9x128x128, .f32⟩
  | 56 => ⟨S_, .f32⟩
  | 57 => ⟨S2x32x128x128, .f32⟩
  | 58 => ⟨S2x128x128x32, .f32⟩
  | 59 => ⟨S2x128x128x32, .f32⟩
  | 60 => ⟨S2x128x128x16, .f32⟩
  | 61 => ⟨S_, .f32⟩
  | 62 => ⟨S2x128x128x16, .f32⟩
  | 63 => ⟨S2x128x128x16, .f32⟩
  | 64 => ⟨S2x128x128x16, .f32⟩
  | 65 => ⟨S2x128x128x16, .f32⟩
  | 66 => ⟨S2x128x128x16, .i32⟩
  | 67 => ⟨S2x1x262144, .i32⟩
  | 68 => ⟨S2x64x262144, .i32⟩
  | 69 => ⟨S2x64x18496, .f32⟩
  | 70 => ⟨S_, .i32⟩
  | 71 => ⟨S2x64x262144, .i32⟩
  | 72 => ⟨S2x64x262144, .i1⟩
  | 73 => ⟨S_, .i32⟩
  | 74 => ⟨S2x64x262144, .i32⟩
  | 75 => ⟨S2x64x262144, .i32⟩
  | 76 => ⟨S2x64x262144, .i32⟩
  | 77 => ⟨S2x64x262144x1, .i32⟩
  | 78 => ⟨S1, .i32⟩
  | 79 => ⟨S_, .i32⟩
  | 80 => ⟨S2x64x262144x1, .i32⟩
  | 81 => ⟨S2x64x262144x1, .i1⟩
  | 82 => ⟨S1x1x1x1, .i32⟩
  | 83 => ⟨S2x64x262144x1, .i32⟩
  | 84 => ⟨S2x64x262144x1, .i1⟩
  | 85 => ⟨S2x64x262144x1, .i1⟩
  | 86 => ⟨S_, .i1⟩
  | 87 => ⟨S2x64x262144, .i1⟩
  | 88 => ⟨S2x64x262144, .f32⟩
  | 89 => ⟨S_, .f32⟩
  | 90 => ⟨S2x64x262144, .f32⟩
  | 91 => ⟨S2x64x262144, .f32⟩
  | 92 => ⟨S2x64x128x128x16, .f32⟩
  | 93 => ⟨S2x64x128x128x16, .f32⟩
  | 94 => ⟨S64x64x16, .f32⟩
  | 95 => ⟨S64x2x128x128, .f32⟩
  | 96 => ⟨S2x64x128x128, .f32⟩
  | 97 => ⟨S1x64x1x1, .f32⟩
  | 98 => ⟨S2x64x128x128, .f32⟩
  | 99 => ⟨S2x64x128x128, .f32⟩
  | _ => ⟨S2x64x128x128, .f32⟩

abbrev hbmTy (i : Nat) : BufTy := match i / 128 with
  | 0 => hbmTy0_0 i
  | 1 => hbmTy0_1 i
  | _ => ⟨S2x64x128x128, .f32⟩

abbrev bufTy : (tb : Table) → Fin (tcTables nBuf tb) → BufTy
  | .hbm, ⟨i, _⟩ => hbmTy i
  | _, _ => ⟨S2x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_cst : Ref sig .tc := ⟨.hbm, 95, rfl⟩
abbrev main_call2_v14 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_4 : Ref sig .tc := ⟨.hbm, 103, rfl⟩
abbrev main_v51 : Ref sig .tc := ⟨.hbm, 104, rfl⟩
abbrev main_cst_5 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_6 : Ref sig .tc := ⟨.hbm, 110, rfl⟩
abbrev main_v56 : Ref sig .tc := ⟨.hbm, 111, rfl⟩
abbrev main_v57 : Ref sig .tc := ⟨.hbm, 112, rfl⟩
abbrev main_cst_7 : Ref sig .tc := ⟨.hbm, 113, rfl⟩
abbrev main_v58 : Ref sig .tc := ⟨.hbm, 114, rfl⟩
abbrev main_v59 : Ref sig .tc := ⟨.hbm, 115, rfl⟩
abbrev main_cst_8 : Ref sig .tc := ⟨.hbm, 116, rfl⟩
abbrev main_v60 : Ref sig .tc := ⟨.hbm, 117, rfl⟩
abbrev main_cst_9 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_call3_v0 : Ref sig .tc := ⟨.hbm, 122, rfl⟩
abbrev main_call3_v1_0 : Ref sig .tc := ⟨.hbm, 123, rfl⟩
abbrev main_v64 : Ref sig .tc := ⟨.hbm, 124, rfl⟩
abbrev main_v65 : Ref sig .tc := ⟨.hbm, 125, rfl⟩
abbrev main_call5_v0 : Ref sig .tc := ⟨.hbm, 126, rfl⟩
abbrev main_call5_v1 : Ref sig .tc := ⟨.hbm, 127, rfl⟩
abbrev main_v66 : Ref sig .tc := ⟨.hbm, 128, rfl⟩
abbrev main_call6_v0 : Ref sig .tc := ⟨.hbm, 129, rfl⟩
abbrev main_call6_cst : Ref sig .tc := ⟨.hbm, 130, rfl⟩
abbrev main_call6_c : Ref sig .tc := ⟨.hbm, 131, rfl⟩
abbrev main_call6_v1_0 : Ref sig .tc := ⟨.hbm, 132, rfl⟩
abbrev main_v67 : Ref sig .tc := ⟨.hbm, 133, rfl⟩
abbrev main_cst_10 : Ref sig .tc := ⟨.hbm, 134, rfl⟩
abbrev main_v68 : Ref sig .tc := ⟨.hbm, 135, rfl⟩
abbrev main_v69 : Ref sig .tc := ⟨.hbm, 136, rfl⟩
abbrev main_call7_c : Ref sig .tc := ⟨.hbm, 137, rfl⟩
abbrev main_call7_v0 : Ref sig .tc := ⟨.hbm, 138, rfl⟩
abbrev main_call7_v1 : Ref sig .tc := ⟨.hbm, 139, rfl⟩
abbrev main_call7_c_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_v5 : Ref sig .tc := ⟨.hbm, 144, rfl⟩
abbrev main_call7_c_1 : Ref sig .tc := ⟨.hbm, 145, rfl⟩
abbrev main_call7_c_2 : Ref sig .tc := ⟨.hbm, 146, rfl⟩
abbrev main_call7_v6 : Ref sig .tc := ⟨.hbm, 147, rfl⟩
abbrev main_call7_v7 : Ref sig .tc := ⟨.hbm, 148, rfl⟩
abbrev main_call7_v8 : Ref sig .tc := ⟨.hbm, 149, rfl⟩
abbrev main_call7_v9 : Ref sig .tc := ⟨.hbm, 150, rfl⟩
abbrev main_call7_v10 : Ref sig .tc := ⟨.hbm, 151, rfl⟩
abbrev main_call7_v11 : Ref sig .tc := ⟨.hbm, 152, rfl⟩
abbrev main_call7_c_3 : Ref sig .tc := ⟨.hbm, 153, rfl⟩
abbrev main_call7_v12 : Ref sig .tc := ⟨.hbm, 154, rfl⟩
abbrev main_call7_v13 : Ref sig .tc := ⟨.hbm, 155, rfl⟩
abbrev main_call7_c_4 : Ref sig .tc := ⟨.hbm, 156, rfl⟩
abbrev main_call7_v14 : Ref sig .tc := ⟨.hbm, 157, rfl⟩
abbrev main_v70 : Ref sig .tc := ⟨.hbm, 158, rfl⟩
abbrev main_v71 : Ref sig .tc := ⟨.hbm, 159, rfl⟩
abbrev main_cst_11 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_c_12 : Ref sig .tc := ⟨.hbm, 165, rfl⟩
abbrev main_v76 : Ref sig .tc := ⟨.hbm, 166, rfl⟩
abbrev main_c_13 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_cst_14 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_cst_15 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_call8_c : Ref sig .tc := ⟨.hbm, 198, rfl⟩
abbrev main_call8_v0 : Ref sig .tc := ⟨.hbm, 199, rfl⟩
abbrev main_call8_v1 : Ref sig .tc := ⟨.hbm, 200, rfl⟩
abbrev main_call8_c_0 : Ref sig .tc := ⟨.hbm, 201, rfl⟩
abbrev main_call8_v2 : Ref sig .tc := ⟨.hbm, 202, rfl⟩
abbrev main_call8_v3 : Ref sig .tc := ⟨.hbm, 203, rfl⟩
abbrev main_call8_v4 : Ref sig .tc := ⟨.hbm, 204, rfl⟩
abbrev main_call8_v5 : Ref sig .tc := ⟨.hbm, 205, rfl⟩
abbrev main_call8_c_1 : Ref sig .tc := ⟨.hbm, 206, rfl⟩
abbrev main_call8_c_2 : Ref sig .tc := ⟨.hbm, 207, rfl⟩
abbrev main_call8_v6 : Ref sig .tc := ⟨.hbm, 208, rfl⟩
abbrev main_call8_v7 : Ref sig .tc := ⟨.hbm, 209, rfl⟩
abbrev main_call8_v8 : Ref sig .tc := ⟨.hbm, 210, rfl⟩
abbrev main_call8_v9 : Ref sig .tc := ⟨.hbm, 211, rfl⟩
abbrev main_call8_v10 : Ref sig .tc := ⟨.hbm, 212, rfl⟩
abbrev main_call8_v11 : Ref sig .tc := ⟨.hbm, 213, rfl⟩
abbrev main_call8_c_3 : Ref sig .tc := ⟨.hbm, 214, rfl⟩
abbrev main_call8_v12 : Ref sig .tc := ⟨.hbm, 215, rfl⟩
abbrev main_call8_v13 : Ref sig .tc := ⟨.hbm, 216, rfl⟩
abbrev main_call8_cst : Ref sig .tc := ⟨.hbm, 217, rfl⟩
abbrev main_call8_v14 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩

abbrev nD : Nat := 1
abbrev τ : Topo := Topo.v7x

variable {F : FTy → Type} [FloatOps F]
-- ==== Proof.RefTerms.lean ====
/-
  What the reference's operations compute from its arguments, named where a result is used more than once.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The padded images. -/
def res_main_v0 (V0 : Valuation τ sig (Elt F)) : FVec F S2x64x136x136 .f32 :=
  pad S2x64x136x136 ![0, 0, 4, 4] ![0, 0, 4, 4] ![0, 0, 0, 0] (V0 (Proc.devRef .tc main_arg0)) (sitofp .f32 (constantI S_ 32 0#32)) pads_S2x64x128x128_S2x64x136x136_000_000_440_440 h_S_

/-- Each pixel's place in the padded image: sixteen copies of its row, then sixteen of its column. -/
def res_main_v15 (V0 : Valuation τ sig (Elt F)) : FVec F S2x32x128x128 .f32 :=
  broadcastInDim S2x32x128x128 ![0, 1, 2, 3] bcast_S1x32x128x128_S2x32x128x128_0_1_2_3 (sitofp .f32 (concatenate S1x32x128x128 1 [⟨S1x16x128x128, (broadcastInDim S1x16x128x128 ![0, 1, 2, 3] bcast_S1x1x128x128_S1x16x128x128_0_1_2_3 (shapeCast _ (broadcastInDim S128x128 ![0] bcast_S128_S128x128_0 (addi (broadcastInDim S128 ![] bcast_S_S128 (constantI S_ 32 4#32)) (iotaInDim S128 32 0))) shapeCasts_S128x128_S1x1x128x128))⟩, ⟨S1x16x128x128, (broadcastInDim S1x16x128x128 ![0, 1, 2, 3] bcast_S1x1x128x128_S1x16x128x128_0_1_2_3 (shapeCast _ (broadcastInDim S128x128 ![1] bcast_S128_S128x128_1 (addi (broadcastInDim S128 ![] bcast_S_S128 (constantI S_ 32 4#32)) (iotaInDim S128 32 0))) shapeCasts_S128x128_S1x1x128x128))⟩] concatenates_S1x16x128x128_S1x16x128x128_S1x32x128x128_d1))

/-- The places, rounded down, coordinates last. -/
def res_main_v17 (V0 : Valuation τ sig (Elt F)) : FVec F S2x128x128x32 .f32 :=
  Host.floor (transpose S2x128x128x32 [0, 2, 3, 1] (res_main_v15 V0) transposes_S2x32x128x128_S2x128x128x32_0_2_3_1)

/-- Each pixel's place in the flattened padded image, as an integer, once for each of the sixteen samples. -/
def res_main_v25 (V0 : Valuation τ sig (Elt F)) : IVec S2x64x262144 32 :=
  broadcastInDim S2x64x262144 ![0, 1, 2] bcast_S2x1x262144_S2x64x262144_0_1_2 (shapeCast _ (fptosi 32 (addf (mulf (extractStridedSlice S2x128x128x16 ![0, 0, 0, 0] (res_main_v17 V0) slices_S2x128x128x32_S2x128x128x16_0_0_0_0) (broadcastInDim S2x128x128x16 ![] bcast_S_S2x128x128x16 (constant S_ .f32 0x43080000#32))) (extractStridedSlice S2x128x128x16 ![0, 0, 0, 16] (res_main_v17 V0) slices_S2x128x128x32_S2x128x128x16_0_0_0_16))) shapeCasts_S2x128x128x16_S2x1x262144)

/-- The places as positions to read: a negative one counted from the end. -/
def res_main_call1_v5 (V0 : Valuation τ sig (Elt F)) : IVec S2x64x262144x1 32 :=
  shapeCast _ (select (cmpi .slt (res_main_v25 V0) (broadcastInDim S2x64x262144 ![] bcast_S_S2x64x262144 (constantI S_ 32 0#32))) (addi (res_main_v25 V0) (broadcastInDim S2x64x262144 ![] bcast_S_S2x64x262144 (constantI S_ 32 18496#32))) (res_main_v25 V0)) shapeCasts_S2x64x262144_S2x64x262144x1

/-- The pixel's own value, once for each of the sixteen samples. -/
def res_main_v28 (V0 : Valuation τ sig (Elt F)) : FVec F S2x64x128x128x16 .f32 :=
  shapeCast _ (select (Host.reduce IntOp.andi (andi (cmpi .sge (res_main_call1_v5 V0) (broadcastInDim S2x64x262144x1 ![] bcast_S_S2x64x262144x1 (constantI S_ 32 0#32))) (cmpi .sle (res_main_call1_v5 V0) (broadcastInDim S2x64x262144x1 ![0, 1, 2, 3] bcast_S1x1x1x1_S2x64x262144x1_0_1_2_3 (broadcastInDim S1x1x1x1 ![3] bcast_S1_S1x1x1x1_3 (constantI S1 32 18495#32))))) (constantI S_ 1 1#1) reducesTo_S2x64x262144x1_S2x64x262144_d3 h_S_) (Host.gather gather_S2x64x18496_S2x64x262144x1_S2x64x262144_n_2_01_01_2_3_111 (shapeCast _ (res_main_v0 V0) shapeCasts_S2x64x136x136_S2x64x18496) (res_main_call1_v5 V0)) (broadcastInDim S2x64x262144 ![] bcast_S_S2x64x262144 (constant S_ .f32 0x7FC00000#32))) shapeCasts_S2x64x262144_S2x64x128x128x16

/-- The places of every ring's samples: the pixel's place plus the ring's offsets. -/
def res_main_v32 (V0 : Valuation τ sig (Elt F)) : FVec F S2x32x9x128x128 .f32 :=
  addf (broadcastInDim S2x32x9x128x128 ![0, 1, 2, 3, 4] bcast_S2x32x1x128x128_S2x32x9x128x128_0_1_2_3_4 (broadcastInDim S2x32x1x128x128 ![0, 1, 3, 4] bcast_S2x32x128x128_S2x32x1x128x128_0_1_3_4 (res_main_v15 V0))) (broadcastInDim S2x32x9x128x128 ![0, 1, 2, 3, 4] bcast_S1x32x9x1x1_S2x32x9x128x128_0_1_2_3_4 ((fun i => FloatOps.ofBits .f32 (lit0 (S1x32x9x1x1.rowMajor i)))))

/-- The samples' places, rounded down, coordinates last. -/
def res_main_v35 (V0 : Valuation τ sig (Elt F)) : FVec F S2x1152x128x32 .f32 :=
  Host.floor (transpose S2x1152x128x32 [0, 2, 3, 1] (shapeCast _ (res_main_v32 V0) shapeCasts_S2x32x9x128x128_S2x32x1152x128) transposes_S2x32x1152x128_S2x1152x128x32_0_2_3_1)

/-- Each sample's place in the flattened padded image, as an integer. -/
def res_main_v43 (V0 : Valuation τ sig (Elt F)) : IVec S2x64x2359296 32 :=
  broadcastInDim S2x64x2359296 ![0, 1, 2] bcast_S2x1x2359296_S2x64x2359296_0_1_2 (shapeCast _ (fptosi 32 (addf (mulf (extractStridedSlice S2x1152x128x16 ![0, 0, 0, 0] (res_main_v35 V0) slices_S2x1152x128x32_S2x1152x128x16_0_0_0_0) (broadcastInDim S2x1152x128x16 ![] bcast_S_S2x1152x128x16 (constant S_ .f32 0x43080000#32))) (extractStridedSlice S2x1152x128x16 ![0, 0, 0, 16] (res_main_v35 V0) slices_S2x1152x128x32_S2x1152x128x16_0_0_0_16))) shapeCasts_S2x1152x128x16_S2x1x2359296)

/-- The samples' places as positions to read: a negative one counted from the end. -/
def res_main_call2_v5 (V0 : Valuation τ sig (Elt F)) : IVec S2x64x2359296x1 32 :=
  shapeCast _ (select (cmpi .slt (res_main_v43 V0) (broadcastInDim S2x64x2359296 ![] bcast_S_S2x64x2359296 (constantI S_ 32 0#32))) (addi (res_main_v43 V0) (broadcastInDim S2x64x2359296 ![] bcast_S_S2x64x2359296 (constantI S_ 32 18496#32))) (res_main_v43 V0)) shapeCasts_S2x64x2359296_S2x64x2359296x1

/-- The likenesses: for each pixel, one for each ring. -/
def res_main_v63 (V0 : Valuation τ sig (Elt F)) : FVec F S2x128x128x9 .f32 :=
  transpose S2x128x128x9 [0, 2, 3, 1] (Host.divf (Host.reduceAdd (Host.divf (broadcastInDim S2x9x128x128x16 ![] bcast_S_S2x9x128x128x16 (constant S_ .f32 0x3F800000#32)) (addf (broadcastInDim S2x9x128x128x16 ![] bcast_S_S2x9x128x128x16 (constant S_ .f32 0x3F800000#32)) (Host.exp (Host.negf (Host.divf (Host.reduceAdd (mulf (shapeCast _ (shapeCast _ (select (Host.reduce IntOp.andi (andi (cmpi .sge (res_main_call2_v5 V0) (broadcastInDim S2x64x2359296x1 ![] bcast_S_S2x64x2359296x1 (constantI S_ 32 0#32))) (cmpi .sle (res_main_call2_v5 V0) (broadcastInDim S2x64x2359296x1 ![0, 1, 2, 3] bcast_S1x1x1x1_S2x64x2359296x1_0_1_2_3 (broadcastInDim S1x1x1x1 ![3] bcast_S1_S1x1x1x1_3 (constantI S1 32 18495#32))))) (constantI S_ 1 1#1) reducesTo_S2x64x2359296x1_S2x64x2359296_d3 h_S_) (Host.gather gather_S2x64x18496_S2x64x2359296x1_S2x64x2359296_n_2_01_01_2_3_111 (shapeCast _ (res_main_v0 V0) shapeCasts_S2x64x136x136_S2x64x18496) (res_main_call2_v5 V0)) (broadcastInDim S2x64x2359296 ![] bcast_S_S2x64x2359296 (constant S_ .f32 0x7FC00000#32))) shapeCasts_S2x64x2359296_S2x64x1152x128x16) shapeCasts_S2x64x1152x128x16_S2x64x9x128x128x16) (broadcastInDim S2x64x9x128x128x16 ![0, 1, 2, 3, 4, 5] bcast_S2x64x1x128x128x16_S2x64x9x128x128x16_0_1_2_3_4_5 (broadcastInDim S2x64x1x128x128x16 ![0, 1, 3, 4, 5] bcast_S2x64x128x128x16_S2x64x1x128x128x16_0_1_3_4_5 (res_main_v28 V0)))) (constant S_ .f32 0x00000000#32) reducesTo_S2x64x9x128x128x16_S2x9x128x128x16_d1 h_S_) (broadcastInDim S2x9x128x128x16 ![] bcast_S_S2x9x128x128x16 (constant S_ .f32 0x42800000#32))))))) (constant S_ .f32 0x00000000#32) reducesTo_S2x9x128x128x16_S2x9x128x128_d4 h_S_) (broadcastInDim S2x9x128x128 ![] bcast_S_S2x9x128x128 (constant S_ .f32 0x41800000#32))) transposes_S2x9x128x128_S2x128x128x9_0_2_3_1

/-- The ring numbers. -/
def res_main_call3_v0 (V0 : Valuation τ sig (Elt F)) : IVec S2x128x128x9 32 :=
  iotaInDim S2x128x128x9 32 3

/-- The likenesses in ascending order. -/
def res_main_v65 (V0 : Valuation τ sig (Elt F)) : FVec F S2x128x128x9 .f32 :=
  Host.sort S2x128x128x9 3 comparator_f32_d3 (res_main_v63 V0)

/-- The steps between neighbours. -/
def res_main_v66 (V0 : Valuation τ sig (Elt F)) : FVec F S2x128x128x8 .f32 :=
  subf (extractStridedSlice S2x128x128x8 ![0, 0, 0, 1] (res_main_v65 V0) slices_S2x128x128x9_S2x128x128x8_0_0_0_1) (extractStridedSlice S2x128x128x8 ![0, 0, 0, 0] (res_main_v65 V0) slices_S2x128x128x9_S2x128x128x8_0_0_0_0)

/-- The step numbers. -/
def res_main_call6_v0 (V0 : Valuation τ sig (Elt F)) : IVec S2x128x128x8 32 :=
  iotaInDim S2x128x128x8 32 3

/-- The least value. -/
def res_main_call6_cst (V0 : Valuation τ sig (Elt F)) : FVec F S_ .f32 :=
  constant S_ .f32 0xFF800000#32

/-- The first step number. -/
def res_main_call6_c (V0 : Valuation τ sig (Elt F)) : IVec S_ 32 :=
  constantI S_ 32 0#32

/-- The first greatest step. -/
def res_main_v69 (V0 : Valuation τ sig (Elt F)) : IVec S2x128x128x1 32 :=
  broadcastInDim S2x128x128x1 ![0, 1, 2] bcast_S2x128x128_S2x128x128x1_0_1_2 ((fun j => (Host.argReduce reducer_argmax_f32_i32 (res_main_v66 V0) (res_main_call6_v0 V0) (res_main_call6_cst V0) (res_main_call6_c V0) reducesTo_S2x128x128x8_S2x128x128_d3 h_S_ j).2))

/-- The greatest step as a position to read: a negative one counted from the end. -/
def res_main_call7_v5 (V0 : Valuation τ sig (Elt F)) : IVec S2x128x128x1x1 32 :=
  shapeCast _ (select (cmpi .slt (res_main_v69 V0) (broadcastInDim S2x128x128x1 ![] bcast_S_S2x128x128x1 (constantI S_ 32 0#32))) (addi (res_main_v69 V0) (broadcastInDim S2x128x128x1 ![] bcast_S_S2x128x128x1 (constantI S_ 32 9#32))) (res_main_v69 V0)) shapeCasts_S2x128x128x1_S2x128x128x1x1

/-- Whether the greatest step is not negative. -/
def res_main_v73 (V0 : Valuation τ sig (Elt F)) : IVec S2x128x128 1 :=
  cmpf .oge (Host.reduce FloatOps.maximumf (res_main_v66 V0) (constant S_ .f32 0xFF800000#32) reducesTo_S2x128x128x8_S2x128x128_d3 h_S_) (broadcastInDim S2x128x128 ![] bcast_S_S2x128x128 (constant S_ .f32 0x00000000#32))

/-- The chosen ring's samples' places, rounded down, coordinates last. -/
def res_main_v95 (V0 : Valuation τ sig (Elt F)) : FVec F S2x128x128x32 .f32 :=
  Host.floor (transpose S2x128x128x32 [0, 2, 3, 1] (Host.reduceAdd (mulf (res_main_v32 V0) (broadcastInDim S2x32x9x128x128 ![0, 1, 2, 3, 4] bcast_S2x1x9x128x128_S2x32x9x128x128_0_1_2_3_4 (broadcastInDim S2x1x9x128x128 ![0, 2, 3, 4] bcast_S2x9x128x128_S2x1x9x128x128_0_2_3_4 (uitofp .f32 (cmpi .eq (broadcastInDim S2x9x128x128 ![0, 1, 2, 3] bcast_S2x1x128x128_S2x9x128x128_0_1_2_3 (broadcastInDim S2x1x128x128 ![0, 2, 3] bcast_S2x128x128_S2x1x128x128_0_2_3 (addi (muli (shapeCast _ (select (Host.reduce IntOp.andi (andi (cmpi .sge (res_main_call7_v5 V0) (broadcastInDim S2x128x128x1x1 ![] bcast_S_S2x128x128x1x1 (constantI S_ 32 0#32))) (cmpi .sle (res_main_call7_v5 V0) (broadcastInDim S2x128x128x1x1 ![0, 1, 2, 3, 4] bcast_S1x1x1x1x1_S2x128x128x1x1_0_1_2_3_4 (broadcastInDim S1x1x1x1x1 ![4] bcast_S1_S1x1x1x1x1_4 (constantI S1 32 8#32))))) (constantI S_ 1 1#1) reducesTo_S2x128x128x1x1_S2x128x128x1_d4 h_S_) (Host.gather gather_S2x128x128x9_S2x128x128x1x1_S2x128x128x1_n_3_012_012_3_4_1111 ((Host.sort2 S2x128x128x9 3 comparator_f32_i32_d3 (res_main_v63 V0) (res_main_call3_v0 V0)).2) (res_main_call7_v5 V0)) (broadcastInDim S2x128x128x1 ![] bcast_S_S2x128x128x1 (constantI S_ 32 2147483648#32))) shapeCasts_S2x128x128x1_S2x128x128) (extui 32 (res_main_v73 V0) natLt_1_32)) (muli (muli (broadcastInDim S2x128x128 ![] bcast_S_S2x128x128 (constantI S_ 32 0#32)) (broadcastInDim S2x128x128 ![] bcast_S_S2x128x128 (constantI S_ 32 1#32))) (extui 32 (noti (res_main_v73 V0)) natLt_1_32))))) (broadcastInDim S2x9x128x128 ![0, 1, 2, 3] bcast_S1x9x1x1_S2x9x128x128_0_1_2_3 (shapeCast _ (iotaInDim S9 32 0) shapeCasts_S9_S1x9x1x1))))))) (constant S_ .f32 0x00000000#32) reducesTo_S2x32x9x128x128_S2x32x128x128_d2 h_S_) transposes_S2x32x128x128_S2x128x128x32_0_2_3_1)

/-- Each chosen sample's place in the flattened padded image, as an integer. -/
def res_main_v103 (V0 : Valuation τ sig (Elt F)) : IVec S2x64x262144 32 :=
  broadcastInDim S2x64x262144 ![0, 1, 2] bcast_S2x1x262144_S2x64x262144_0_1_2 (shapeCast _ (fptosi 32 (addf (mulf (extractStridedSlice S2x128x128x16 ![0, 0, 0, 0] (res_main_v95 V0) slices_S2x128x128x32_S2x128x128x16_0_0_0_0) (broadcastInDim S2x128x128x16 ![] bcast_S_S2x128x128x16 (constant S_ .f32 0x43080000#32))) (extractStridedSlice S2x128x128x16 ![0, 0, 0, 16] (res_main_v95 V0) slices_S2x128x128x32_S2x128x128x16_0_0_0_16))) shapeCasts_S2x128x128x16_S2x1x262144)

/-- The chosen samples' places as positions to read: a negative one counted from the end. -/
def res_main_call8_v5 (V0 : Valuation τ sig (Elt F)) : IVec S2x64x262144x1 32 :=
  shapeCast _ (select (cmpi .slt (res_main_v103 V0) (broadcastInDim S2x64x262144 ![] bcast_S_S2x64x262144 (constantI S_ 32 0#32))) (addi (res_main_v103 V0) (broadcastInDim S2x64x262144 ![] bcast_S_S2x64x262144 (constantI S_ 32 18496#32))) (res_main_v103 V0)) shapeCasts_S2x64x262144_S2x64x262144x1

end Cert.ReferenceIdeal.Value

end
-- ==== Proof.RefRun.lean ====
/-
  The reference's run: its operations as one list, cut into stretches, what each stretch leaves in the buffers used
  later, and at the end the result's buffer over the arguments, which stay unchanged.
-/
module

public import proofs.«01_k».proof.Proof.RefTerms
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Rows and columns of the pixels' places joined, as a function of the two. -/
def fn_main_v13 : (⟨S1x16x128x128, .i32⟩ : BufTy).Contents (Elt F) → (⟨S1x16x128x128, .i32⟩ : BufTy).Contents (Elt F) → (⟨S1x32x128x128, .i32⟩ : BufTy).Contents (Elt F) :=
  (fun a b => concatenate S1x32x128x128 1 [⟨S1x16x128x128, a⟩, ⟨S1x16x128x128, b⟩] concatenates_S1x16x128x128_S1x16x128x128_S1x32x128x128_d1)

/-- @main's operations 1 … 30 of 225 (window `main_part0`). -/
abbrev ops_part0_0 : List (HloOp τ sig (Elt F)) :=
  [ nullary main_cst (fun i => FloatOps.ofBits .f32 (lit0 (S1x32x9x1x1.rowMajor i))),
    nullary main_c (constantI S_ 32 0#32),
    TRef.unary (TRef.of (T := ⟨S_, .i32⟩) main_c) (TRef.of (T := ⟨S_, .f32⟩) main_call0_v0) (sitofp .f32),
    TRef.binary (TRef.of (T := ⟨S2x64x128x128, .f32⟩) main_arg0) (TRef.of (T := ⟨S_, .f32⟩) main_call0_v0) (TRef.of (T := ⟨S2x64x136x136, .f32⟩) main_v0) (fun x v => pad S2x64x136x136 ![0, 0, 4, 4] ![0, 0, 4, 4] ![0, 0, 0, 0] x v pads_S2x64x128x128_S2x64x136x136_000_000_440_440 h_S_),
    nullary main_v1 (iotaInDim S128 32 0),
    nullary main_c_0 (constantI S_ 32 4#32),
    unary main_c_0 main_v2 (broadcastInDim S128 ![] bcast_S_S128 : (⟨S_, .i32⟩ : BufTy).Contents (Elt F) → (⟨S128, .i32⟩ : BufTy).Contents (Elt F)),
    binary main_v2 main_v1 main_v3 (addi : (⟨S128, .i32⟩ : BufTy).Contents (Elt F) → (⟨S128, .i32⟩ : BufTy).Contents (Elt F) → (⟨S128, .i32⟩ : BufTy).Contents (Elt F)),
    nullary main_v4 (iotaInDim S128 32 0),
    nullary main_c_1 (constantI S_ 32 4#32),
    unary main_c_1 main_v5 (broadcastInDim S128 ![] bcast_S_S128 : (⟨S_, .i32⟩ : BufTy).Contents (Elt F) → (⟨S128, .i32⟩ : BufTy).Contents (Elt F)),
    binary main_v5 main_v4 main_v6 (addi : (⟨S128, .i32⟩ : BufTy).Contents (Elt F) → (⟨S128, .i32⟩ : BufTy).Contents (Elt F) → (⟨S128, .i32⟩ : BufTy).Contents (Elt F)),
    unary main_v3 main_v7 (broadcastInDim S128x128 ![0] bcast_S128_S128x128_0 : (⟨S128, .i32⟩ : BufTy).Contents (Elt F) → (⟨S128x128, .i32⟩ : BufTy).Contents (Elt F)),
    unary main_v6 main_v8 (broadcastInDim S128x128 ![1] bcast_S128_S128x128_1 : (⟨S128, .i32⟩ : BufTy).Contents (Elt F) → (⟨S128x128, .i32⟩ : BufTy).Contents (Elt F)),
    reshape main_v7 main_v9 (rfl : (.i32 : EltTy) = .i32) shapeCasts_S128x128_S1x1x128x128,
    unary main_v9 main_v10 (broadcastInDim S1x16x128x128 ![0, 1, 2, 3] bcast_S1x1x128x128_S1x16x128x128_0_1_2_3 : (⟨S1x1x128x128, .i32⟩ : BufTy).Contents (Elt F) → (⟨S1x16x128x128, .i32⟩ : BufTy).Contents (Elt F)),
    reshape main_v8 main_v11 (rfl : (.i32 : EltTy) = .i32) shapeCasts_S128x128_S1x1x128x128,
    unary main_v11 main_v12 (broadcastInDim S1x16x128x128 ![0, 1, 2, 3] bcast_S1x1x128x128_S1x16x128x128_0_1_2_3 : (⟨S1x1x128x128, .i32⟩ : BufTy).Contents (Elt F) → (⟨S1x16x128x128, .i32⟩ : BufTy).Contents (Elt F)),
    binary main_v10 main_v12 main_v13 (fn_main_v13 (F := F)),
    unary main_v13 main_v14 (sitofp .f32 : (⟨S1x32x128x128, .i32⟩ : BufTy).Contents (Elt F) → (⟨S1x32x128x128, .f32⟩ : BufTy).Contents (Elt F)),
    unary main_v14 main_v15 (broadcastInDim S2x32x128x128 ![0, 1, 2, 3] bcast_S1x32x128x128_S2x32x128x128_0_1_2_3 : (⟨S1x32x128x128, .f32⟩ : BufTy).Contents (Elt F) → (⟨S2x32x128x128, .f32⟩ : BufTy).Contents (Elt F)),
    unary main_v15 main_v16 ((transpose S2x128x128x32 [0, 2, 3, 1] · transposes_S2x32x128x128_S2x128x128x32_0_2_3_1) : (⟨S2x32x128x128, .f32⟩ : BufTy).Contents (Elt F) → (⟨S2x128x128x32, .f32⟩ : BufTy).Contents (Elt F)),
    unary main_v16 main_v17 (Host.floor : (⟨S2x128x128x32, .f32⟩ : BufTy).Contents (Elt F) → (⟨S2x128x128x32, .f32⟩ : BufTy).Contents (Elt F)),
    unary main_v17 main_v18 ((extractStridedSlice S2x128x128x16 ![0, 0, 0, 0] · slices_S2x128x128x32_S2x128x128x16_0_0_0_0) : (⟨S2x128x128x32, .f32⟩ : BufTy).Contents (Elt F) → (⟨S2x128x128x16, .f32⟩ : BufTy).Contents (Elt F)),
    nullary main_cst_2 (constant S_ .f32 0x43080000#32),
    unary main_cst_2 main_v19 (broadcastInDim S2x128x128x16 ![] bcast_S_S2x128x128x16 : (⟨S_, .f32⟩ : BufTy).Contents (Elt F) → (⟨S2x128x128x16, .f32⟩ : BufTy).Contents (Elt F)),
    binary main_v18 main_v19 main_v20 (mulf : (⟨S2x128x128x16, .f32⟩ : BufTy).Contents (Elt F) → (⟨S2x128x128x16, .f32⟩ : BufTy).Contents (Elt F) → (⟨S2x128x128x16, .f32⟩ : BufTy).Contents (Elt F)),
    unary main_v17 main_v21 ((extractStridedSlice S2x128x128x16 ![0, 0, 0, 16] · slices_S2x128x128x32_S2x128x128x16_0_0_0_16) : (⟨S2x128x128x32, .f32⟩ : BufTy).Contents (Elt F) → (⟨S2x128x128x16, .f32⟩ : BufTy).Contents (Elt F)),
    binary main_v20 main_v21 main_v22 (addf : (⟨S2x128x128x16, .f32⟩ : BufTy).Contents (Elt F) → (⟨S2x128x128x16, .f32⟩ : BufTy).Contents (Elt F) → (⟨S2x128x128x16, .f32⟩ : BufTy).Contents (Elt F)),
    unary main_v22 main_v23 (fptosi 32 : (⟨S2x128x128x16, .f32⟩ : BufTy).Contents (Elt F) → (⟨S2x128x128x16, .i32⟩ : BufTy).Contents (Elt F)) ]

/-- @main's operations 31 … 60 of 225 (window `main_part0`). -/
abbrev ops_part0_1 : List (HloOp τ sig (Elt F)) :=
  [ reshape main_v23 main_v24 (rfl : (.i32 : EltTy) = .i32) shapeCasts_S2x128x128x16_S2x1x262144,
    unary main_v24 main_v25 (broadcastInDim S2x64x262144 ![0, 1, 2] bcast_S2x1x262144_S2x64x262144_0_1_2 : (⟨S2x1x262144, .i32⟩ : BufTy).Contents (Elt F) → (⟨S2x64x262144, .i32⟩ : BufTy).Contents (Elt F)),
    reshape main_v0 main_v26 (rfl : (.f32 : EltTy) = .f32) shapeCasts_S2x64x136x136_S2x64x18496,
    TRef.nullary (TRef.of (T := ⟨S_, .i32⟩) main_call1_c) (constantI S_ 32 0#32),
    TRef.unary (TRef.of (T := ⟨S_, .i32⟩) main_call1_c) (TRef.of (T := ⟨S2x64x262144, .i32⟩) main_call1_v0) (broadcastInDim S2x64x262144 ![] bcast_S_S2x64x262144),
    TRef.binary (TRef.of (T := ⟨S2x64x262144, .i32⟩) main_v25) (TRef.of (T := ⟨S2x64x262144, .i32⟩) main_call1_v0) (TRef.of (T := ⟨S2x64x262144, .i1⟩) main_call1_v1) (cmpi .slt),
    TRef.nullary (TRef.of (T := ⟨S_, .i32⟩) main_call1_c_0) (constantI S_ 32 18496#32),
    TRef.unary (TRef.of (T := ⟨S_, .i32⟩) main_call1_c_0) (TRef.of (T := ⟨S2x64x262144, .i32⟩) main_call1_v2) (broadcastInDim S2x64x262144 ![] bcast_S_S2x64x262144),
    TRef.binary (TRef.of (T := ⟨S2x64x262144, .i32⟩) main_v25) (TRef.of (T := ⟨S2x64x262144, .i32⟩) main_call1_v2) (TRef.of (T := ⟨S2x64x262144, .i32⟩) main_call1_v3) addi,
    TRef.ternary (TRef.of (T := ⟨S2x64x262144, .i1⟩) main_call1_v1) (TRef.of (T := ⟨S2x64x262144, .i32⟩) main_call1_v3) (TRef.of (T := ⟨S2x64x262144, .i32⟩) main_v25) (TRef.of (T := ⟨S2x64x262144, .i32⟩) main_call1_v4) select,
    TRef.reshape (TRef.of (T := ⟨S2x64x262144, .i32⟩) main_call1_v4) (TRef.of (T := ⟨S2x64x262144x1, .i32⟩) main_call1_v5) (rfl : (.i32 : EltTy) = .i32) shapeCasts_S2x64x262144_S2x64x262144x1,
    TRef.nullary (TRef.of (T := ⟨S1, .i32⟩) main_call1_c_1) (constantI S1 32 18495#32),
    TRef.nullary (TRef.of (T := ⟨S_, .i32⟩) main_call1_c_2) (constantI S_ 32 0#32),
    TRef.unary (TRef.of (T := ⟨S_, .i32⟩) main_call1_c_2) (TRef.of (T := ⟨S2x64x262144x1, .i32⟩) main_call1_v6) (broadcastInDim S2x64x262144x1 ![] bcast_S_S2x64x262144x1),
    TRef.binary (TRef.of (T := ⟨S2x64x262144x1, .i32⟩) main_call1_v5) (TRef.of (T := ⟨S2x64x262144x1, .i32⟩) main_call1_v6) (TRef.of (T := ⟨S2x64x262144x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S2x64x262144x1, .i32⟩) main_call1_v9) (broadcastInDim S2x64x262144x1 ![0, 1, 2, 3] bcast_S1x1x1x1_S2x64x262144x1_0_1_2_3),
    TRef.binary (TRef.of (T := ⟨S2x64x262144x1, .i32⟩) main_call1_v5) (TRef.of (T := ⟨S2x64x262144x1, .i32⟩) main_call1_v9) (TRef.of (T := ⟨S2x64x262144x1, .i1⟩) main_call1_v10) (cmpi .sle),
    TRef.binary (TRef.of (T := ⟨S2x64x262144x1, .i1⟩) main_call1_v7) (TRef.of (T := ⟨S2x64x262144x1, .i1⟩) main_call1_v10) (TRef.of (T := ⟨S2x64x262144x1, .i1⟩) main_call1_v11) andi,
    TRef.nullary (TRef.of (T := ⟨S_, .i1⟩) main_call1_c_3) (constantI S_ 1 1#1),
    TRef.binary (TRef.of (T := ⟨S2x64x262144x1, .i1⟩) main_call1_v11) (TRef.of (T := ⟨S_, .i1⟩) main_call1_c_3) (TRef.of (T := ⟨S2x64x262144, .i1⟩) main_call1_v12) (fun x v => Host.reduce IntOp.andi x v reducesTo_S2x64x262144x1_S2x64x262144_d3 h_S_),
    TRef.binary (TRef.of (T := ⟨S2x64x18496, .f32⟩) main_v26) (TRef.of (T := ⟨S2x64x262144x1, .i32⟩) main_call1_v5) (TRef.of (T := ⟨S2x64x262144, .f32⟩) main_call1_v13) (fun x i => Host.gather gather_S2x64x18496_S2x64x262144x1_S2x64x262144_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S2x64x262144, .f32⟩) main_call1_v14) (broadcastInDim S2x64x262144 ![] bcast_S_S2x64x262144),
    TRef.ternary (TRef.of (T := ⟨S2x64x262144, .i1⟩) main_call1_v12) (TRef.of (T := ⟨S2x64x262144, .f32⟩) main_call1_v13) (TRef.of (T := ⟨S2x64x262144, .f32⟩) main_call1_v14) (TRef.of (T := ⟨S2x64x262144, .f32⟩) main_v27) select,
    reshape main_v27 main_v28 (rfl : (.f32 : EltTy) = .f32) shapeCasts_S2x64x262144_S2x64x128x128x16,
    unary main_v15 main_v29 (broadcastInDim S2x32x1x128x128 ![0, 1, 3, 4] bcast_S2x32x128x128_S2x32x1x128x128_0_1_3_4 : (⟨S2x32x128x128, .f32⟩ : BufTy).Contents (Elt F) → (⟨S2x32x1x128x128, .f32⟩ : BufTy).Contents (Elt F)),
    unary main_v29 main_v30 (broadcastInDim S2x32x9x128x128 ![0, 1, 2, 3, 4] bcast_S2x32x1x128x128_S2x32x9x128x128_0_1_2_3_4 : (⟨S2x32x1x128x128, .f32⟩ : BufTy).Contents (Elt F) → (⟨S2x32x9x128x128, .f32⟩ : BufTy).Contents (Elt F)),
    unary main_cst main_v31 (broadcastInDim S2x32x9x128x128 ![0, 1, 2, 3, 4] bcast_S1x32x9x1x1_S2x32x9x128x128_0_1_2_3_4 : (⟨S1x32x9x1x1, .f32⟩ : BufTy).Contents (Elt F) → (⟨S2x32x9x128x128, .f32⟩ : BufTy).Contents (Elt F)),
    binary main_v30 main_v31 main_v32 (addf : (⟨S2x32x9x128x128, .f32⟩ : BufTy).Contents (Elt F) → (⟨S2x32x9x128x128, .f32⟩ : BufTy).Contents (Elt F) → (⟨S2x32x9x128x128, .f32⟩ : BufTy).Contents (Elt F)) ]

/-- @main's operations 61 … 90 of 225 (window `main_part0`). -/
abbrev ops_part0_2 : List (HloOp τ sig (Elt F)) :=
  [ reshape main_v32 main_v33 (rfl : (.f32 : EltTy) = .f32) shapeCasts_S2x32x9x128x128_S2x32x1152x128,
    unary main_v33 main_v34 ((transpose S2x1152x128x32 [0, 2, 3, 1] · transposes_S2x32x1152x128_S2x1152x128x32_0_2_3_1) : (⟨S2x32x1152x128, .f32⟩ : BufTy).Contents (Elt F) → (⟨S2x1152x128x32, .f32⟩ : BufTy).Contents (Elt F)),
    unary main_v34 main_v35 (Host.floor : (⟨S2x1152x128x32, .f32⟩ : BufTy).Contents (Elt F) → (⟨S2x1152x128x32, .f32⟩ : BufTy).Contents (Elt F)),
    unary main_v35 main_v36 ((extractStridedSlice S2x1152x128x16 ![0, 0, 0, 0] · slices_S2x1152x128x32_S2x1152x128x16_0_0_0_0) : (⟨S2x1152x128x32, .f32⟩ : BufTy).Contents (Elt F) → (⟨S2x1152x128x16, .f32⟩ : BufTy).Contents (Elt F)),
    nullary main_cst_3 (constant S_ .f32 0x43080000#32),
    unary main_cst_3 main_v37 (broadcastInDim S2x1152x128x16 ![] bcast_S_S2x1152x128x16 : (⟨S_, .f32⟩ : BufTy).Contents (Elt F) → (⟨S2x1152x128x16, .f32⟩ : BufTy).Contents (Elt F)),
    binary main_v36 main_v37 main_v38 (mulf : (⟨S2x1152x128x16, .f32⟩ : BufTy).Contents (Elt F) → (⟨S2x1152x128x16, .f32⟩ : BufTy).Contents (Elt F) → (⟨S2x1152x128x16, .f32⟩ : BufTy).Contents (Elt F)),
    unary main_v35 main_v39 ((extractStridedSlice S2x1152x128x16 ![0, 0, 0, 16] · slices_S2x1152x128x32_S2x1152x128x16_0_0_0_16) : (⟨S2x1152x128x32, .f32⟩ : BufTy).Contents (Elt F) → (⟨S2x1152x128x16, .f32⟩ : BufTy).Contents (Elt F)),
    binary main_v38 main_v39 main_v40 (addf : (⟨S2x1152x128x16, .f32⟩ : BufTy).Contents (Elt F) → (⟨S2x1152x128x16, .f32⟩ : BufTy).Contents (Elt F) → (⟨S2x1152x128x16, .f32⟩ : BufTy).Contents (Elt F)),
    unary main_v40 main_v41 (fptosi 32 : (⟨S2x1152x128x16, .f32⟩ : BufTy).Contents (Elt F) → (⟨S2x1152x128x16, .i32⟩ : BufTy).Contents (Elt F)),
    reshape main_v41 main_v42 (rfl : (.i32 : EltTy) = .i32) shapeCasts_S2x1152x128x16_S2x1x2359296,
    unary main_v42 main_v43 (broadcastInDim S2x64x2359296 ![0, 1, 2] bcast_S2x1x2359296_S2x64x2359296_0_1_2 : (⟨S2x1x2359296, .i32⟩ : BufTy).Contents (Elt F) → (⟨S2x64x2359296, .i32⟩ : BufTy).Contents (Elt F)),
    reshape main_v0 main_v44 (rfl : (.f32 : EltTy) = .f32) shapeCasts_S2x64x136x136_S2x64x18496,
    TRef.nullary (TRef.of (T := ⟨S_, .i32⟩) main_call2_c) (constantI S_ 32 0#32),
    TRef.unary (TRef.of (T := ⟨S_, .i32⟩) main_call2_c) (TRef.of (T := ⟨S2x64x2359296, .i32⟩) main_call2_v0) (broadcastInDim S2x64x2359296 ![] bcast_S_S2x64x2359296),
    TRef.binary (TRef.of (T := ⟨S2x64x2359296, .i32⟩) main_v43) (TRef.of (T := ⟨S2x64x2359296, .i32⟩) main_call2_v0) (TRef.of (T := ⟨S2x64x2359296, .i1⟩) main_call2_v1) (cmpi .slt),
    TRef.nullary (TRef.of (T := ⟨S_, .i32⟩) main_call2_c_0) (constantI S_ 32 18496#32),
    TRef.unary (TRef.of (T := ⟨S_, .i32⟩) main_call2_c_0) (TRef.of (T := ⟨S2x64x2359296, .i32⟩) main_call2_v2) (broadcastInDim S2x64x2359296 ![] bcast_S_S2x64x2359296),
    TRef.binary (TRef.of (T := ⟨S2x64x2359296, .i32⟩) main_v43) (TRef.of (T := ⟨S2x64x2359296, .i32⟩) main_call2_v2) (TRef.of (T := ⟨S2x64x2359296, .i32⟩) main_call2_v3) addi,
    TRef.ternary (TRef.of (T := ⟨S2x64x2359296, .i1⟩) main_call2_v1) (TRef.of (T := ⟨S2x64x2359296, .i32⟩) main_call2_v3) (TRef.of (T := ⟨S2x64x2359296, .i32⟩) main_v43) (TRef.of (T := ⟨S2x64x2359296, .i32⟩) main_call2_v4) select,
    TRef.reshape (TRef.of (T := ⟨S2x64x2359296, .i32⟩) main_call2_v4) (TRef.of (T := ⟨S2x64x2359296x1, .i32⟩) main_call2_v5) (rfl : (.i32 : EltTy) = .i32) shapeCasts_S2x64x2359296_S2x64x2359296x1,
    TRef.nullary (TRef.of (T := ⟨S1, .i32⟩) main_call2_c_1) (constantI S1 32 18495#32),
    TRef.nullary (TRef.of (T := ⟨S_, .i32⟩) main_call2_c_2) (constantI S_ 32 0#32),
    TRef.unary (TRef.of (T := ⟨S_, .i32⟩) main_call2_c_2) (TRef.of (T := ⟨S2x64x2359296x1, .i32⟩) main_call2_v6) (broadcastInDim S2x64x2359296x1 ![] bcast_S_S2x64x2359296x1),
    TRef.binary (TRef.of (T := ⟨S2x64x2359296x1, .i32⟩) main_call2_v5) (TRef.of (T := ⟨S2x64x2359296x1, .i32⟩) main_call2_v6) (TRef.of (T := ⟨S2x64x2359296x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S2x64x2359296x1, .i32⟩) main_call2_v9) (broadcastInDim S2x64x2359296x1 ![0, 1, 2, 3] bcast_S1x1x1x1_S2x64x2359296x1_0_1_2_3),
    TRef.binary (TRef.of (T := ⟨S2x64x2359296x1, .i32⟩) main_call2_v5) (TRef.of (T := ⟨S2x64x2359296x1, .i32⟩) main_call2_v9) (TRef.of (T := ⟨S2x64x2359296x1, .i1⟩) main_call2_v10) (cmpi .sle),
    TRef.binary (TRef.of (T := ⟨S2x64x2359296x1, .i1⟩) main_call2_v7) (TRef.of (T := ⟨S2x64x2359296x1, .i1⟩) main_call2_v10) (TRef.of (T := ⟨S2x64x2359296x1, .i1⟩) main_call2_v11) andi,
    TRef.nullary (TRef.of (T := ⟨S_, .i1⟩) main_call2_c_3) (constantI S_ 1 1#1) ]

/-- @main's operations 91 … 103 of 225 (window `main_part0`). -/
abbrev ops_part0_3 : List (HloOp τ sig (Elt F)) :=
  [ TRef.binary (TRef.of (T := ⟨S2x64x2359296x1, .i1⟩) main_call2_v11) (TRef.of (T := ⟨S_, .i1⟩) main_call2_c_3) (TRef.of (T := ⟨S2x64x2359296, .i1⟩) main_call2_v12) (fun x v => Host.reduce IntOp.andi x v reducesTo_S2x64x2359296x1_S2x64x2359296_d3 h_S_),
    TRef.binary (TRef.of (T := ⟨S2x64x18496, .f32⟩) main_v44) (TRef.of (T := ⟨S2x64x2359296x1, .i32⟩) main_call2_v5) (TRef.of (T := ⟨S2x64x2359296, .f32⟩) main_call2_v13) (fun x i => Host.gather gather_S2x64x18496_S2x64x2359296x1_S2x64x2359296_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S2x64x2359296, .f32⟩) main_call2_v14) (broadcastInDim S2x64x2359296 ![] bcast_S_S2x64x2359296),
    TRef.ternary (TRef.of (T := ⟨S2x64x2359296, .i1⟩) main_call2_v12) (TRef.of (T := ⟨S2x64x2359296, .f32⟩) main_call2_v13) (TRef.of (T := ⟨S2x64x2359296, .f32⟩) main_call2_v14) (TRef.of (T := ⟨S2x64x2359296, .f32⟩) main_v45) select,
    reshape main_v45 main_v46 (rfl : (.f32 : EltTy) = .f32) shapeCasts_S2x64x2359296_S2x64x1152x128x16,
    reshape main_v46 main_v47 (rfl : (.f32 : EltTy) = .f32) shapeCasts_S2x64x1152x128x16_S2x64x9x128x128x16,
    unary main_v28 main_v48 (broadcastInDim S2x64x1x128x128x16 ![0, 1, 3, 4, 5] bcast_S2x64x128x128x16_S2x64x1x128x128x16_0_1_3_4_5 : (⟨S2x64x128x128x16, .f32⟩ : BufTy).Contents (Elt F) → (⟨S2x64x1x128x128x16, .f32⟩ : BufTy).Contents (Elt F)),
    unary main_v48 main_v49 (broadcastInDim S2x64x9x128x128x16 ![0, 1, 2, 3, 4, 5] bcast_S2x64x1x128x128x16_S2x64x9x128x128x16_0_1_2_3_4_5 : (⟨S2x64x1x128x128x16, .f32⟩ : BufTy).Contents (Elt F) → (⟨S2x64x9x128x128x16, .f32⟩ : BufTy).Contents (Elt F)),
    binary main_v47 main_v49 main_v50 (mulf : (⟨S2x64x9x128x128x16, .f32⟩ : BufTy).Contents (Elt F) → (⟨S2x64x9x128x128x16, .f32⟩ : BufTy).Contents (Elt F) → (⟨S2x64x9x128x128x16, .f32⟩ : BufTy).Contents (Elt F)),
    nullary main_cst_4 (constant S_ .f32 0x00000000#32),
    binary main_v50 main_cst_4 main_v51 ((fun x v => Host.reduceAdd x v reducesTo_S2x64x9x128x128x16_S2x9x128x128x16_d1 h_S_) : (⟨S2x64x9x128x128x16, .f32⟩ : BufTy).Contents (Elt F) → (⟨S_, .f32⟩ : BufTy).Contents (Elt F) → (⟨S2x9x128x128x16, .f32⟩ : BufTy).Contents (Elt F)),
    nullary main_cst_5 (constant S_ .f32 0x42800000#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 104 … 133 of 225 (window `main_part1`). -/
abbrev ops_part1_0 : List (HloOp τ sig (Elt F)) :=
  [ unary main_cst_5 main_v52 (broadcastInDim S2x9x128x128x16 ![] bcast_S_S2x9x128x128x16 : (⟨S_, .f32⟩ : BufTy).Contents (Elt F) → (⟨S2x9x128x128x16, .f32⟩ : BufTy).Contents (Elt F)),
    binary main_v51 main_v52 main_v53 (Host.divf : (⟨S2x9x128x128x16, .f32⟩ : BufTy).Contents (Elt F) → (⟨S2x9x128x128x16, .f32⟩ : BufTy).Contents (Elt F) → (⟨S2x9x128x128x16, .f32⟩ : BufTy).Contents (Elt F)),
    unary main_v53 main_v54 (Host.negf : (⟨S2x9x128x128x16, .f32⟩ : BufTy).Contents (Elt F) → (⟨S2x9x128x128x16, .f32⟩ : BufTy).Contents (Elt F)),
    unary main_v54 main_v55 (Host.exp : (⟨S2x9x128x128x16, .f32⟩ : BufTy).Contents (Elt F) → (⟨S2x9x128x128x16, .f32⟩ : BufTy).Contents (Elt F)),
    nullary main_cst_6 (constant S_ .f32 0x3F800000#32),
    unary main_cst_6 main_v56 (broadcastInDim S2x9x128x128x16 ![] bcast_S_S2x9x128x128x16 : (⟨S_, .f32⟩ : BufTy).Contents (Elt F) → (⟨S2x9x128x128x16, .f32⟩ : BufTy).Contents (Elt F)),
    binary main_v56 main_v55 main_v57 (addf : (⟨S2x9x128x128x16, .f32⟩ : BufTy).Contents (Elt F) → (⟨S2x9x128x128x16, .f32⟩ : BufTy).Contents (Elt F) → (⟨S2x9x128x128x16, .f32⟩ : BufTy).Contents (Elt F)),
    nullary main_cst_7 (constant S_ .f32 0x3F800000#32),
    unary main_cst_7 main_v58 (broadcastInDim S2x9x128x128x16 ![] bcast_S_S2x9x128x128x16 : (⟨S_, .f32⟩ : BufTy).Contents (Elt F) → (⟨S2x9x128x128x16, .f32⟩ : BufTy).Contents (Elt F)),
    binary main_v58 main_v57 main_v59 (Host.divf : (⟨S2x9x128x128x16, .f32⟩ : BufTy).Contents (Elt F) → (⟨S2x9x128x128x16, .f32⟩ : BufTy).Contents (Elt F) → (⟨S2x9x128x128x16, .f32⟩ : BufTy).Contents (Elt F)),
    nullary main_cst_8 (constant S_ .f32 0x00000000#32),
    binary main_v59 main_cst_8 main_v60 ((fun x v => Host.reduceAdd x v reducesTo_S2x9x128x128x16_S2x9x128x128_d4 h_S_) : (⟨S2x9x128x128x16, .f32⟩ : BufTy).Contents (Elt F) → (⟨S_, .f32⟩ : BufTy).Contents (Elt F) → (⟨S2x9x128x128, .f32⟩ : BufTy).Contents (Elt F)),
    nullary main_cst_9 (constant S_ .f32 0x41800000#32),
    unary main_cst_9 main_v61 (broadcastInDim S2x9x128x128 ![] bcast_S_S2x9x128x128 : (⟨S_, .f32⟩ : BufTy).Contents (Elt F) → (⟨S2x9x128x128, .f32⟩ : BufTy).Contents (Elt F)),
    binary main_v60 main_v61 main_v62 (Host.divf : (⟨S2x9x128x128, .f32⟩ : BufTy).Contents (Elt F) → (⟨S2x9x128x128, .f32⟩ : BufTy).Contents (Elt F) → (⟨S2x9x128x128, .f32⟩ : BufTy).Contents (Elt F)),
    unary main_v62 main_v63 ((transpose S2x128x128x9 [0, 2, 3, 1] · transposes_S2x9x128x128_S2x128x128x9_0_2_3_1) : (⟨S2x9x128x128, .f32⟩ : BufTy).Contents (Elt F) → (⟨S2x128x128x9, .f32⟩ : BufTy).Contents (Elt F)),
    TRef.nullary (TRef.of (T := ⟨S2x128x128x9, .i32⟩) main_call3_v0) (iotaInDim S2x128x128x9 32 3),
    TRef.binary (TRef.of (T := ⟨S2x128x128x9, .f32⟩) main_v63) (TRef.of (T := ⟨S2x128x128x9, .i32⟩) main_call3_v0) (TRef.of (T := ⟨S2x128x128x9, .f32⟩) main_call3_v1_0) (fun x y => (Host.sort2 S2x128x128x9 3 comparator_f32_i32_d3 x y).1),
    TRef.binary (TRef.of (T := ⟨S2x128x128x9, .f32⟩) main_v63) (TRef.of (T := ⟨S2x128x128x9, .i32⟩) main_call3_v0) (TRef.of (T := ⟨S2x128x128x9, .i32⟩) main_v64) (fun x y => (Host.sort2 S2x128x128x9 3 comparator_f32_i32_d3 x y).2),
    TRef.unary (TRef.of (T := ⟨S2x128x128x9, .f32⟩) main_v63) (TRef.of (T := ⟨S2x128x128x9, .f32⟩) main_v65) (fun x => Host.sort S2x128x128x9 3 comparator_f32_d3 x),
    TRef.unary (TRef.of (T := ⟨S2x128x128x9, .f32⟩) main_v65) (TRef.of (T := ⟨S2x128x128x8, .f32⟩) main_call5_v0) (extractStridedSlice S2x128x128x8 ![0, 0, 0, 1] · slices_S2x128x128x9_S2x128x128x8_0_0_0_1),
    TRef.unary (TRef.of (T := ⟨S2x128x128x9, .f32⟩) main_v65) (TRef.of (T := ⟨S2x128x128x8, .f32⟩) main_call5_v1) (extractStridedSlice S2x128x128x8 ![0, 0, 0, 0] · slices_S2x128x128x9_S2x128x128x8_0_0_0_0),
    TRef.binary (TRef.of (T := ⟨S2x128x128x8, .f32⟩) main_call5_v0) (TRef.of (T := ⟨S2x128x128x8, .f32⟩) main_call5_v1) (TRef.of (T := ⟨S2x128x128x8, .f32⟩) main_v66) subf,
    TRef.nullary (TRef.of (T := ⟨S2x128x128x8, .i32⟩) main_call6_v0) (iotaInDim S2x128x128x8 32 3),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S2x128x128x8, .f32⟩) main_v66) (TRef.of (T := ⟨S2x128x128x8, .i32⟩) main_call6_v0) (TRef.of (T := ⟨S_, .f32⟩) main_call6_cst) (TRef.of (T := ⟨S_, .i32⟩) main_call6_c) (TRef.of (T := ⟨S2x128x128, .f32⟩) main_call6_v1_0) (fun x y u v j => (Host.argReduce reducer_argmax_f32_i32 x y u v reducesTo_S2x128x128x8_S2x128x128_d3 h_S_ j).1),
    TRef.quaternary (TRef.of (T := ⟨S2x128x128x8, .f32⟩) main_v66) (TRef.of (T := ⟨S2x128x128x8, .i32⟩) main_call6_v0) (TRef.of (T := ⟨S_, .f32⟩) main_call6_cst) (TRef.of (T := ⟨S_, .i32⟩) main_call6_c) (TRef.of (T := ⟨S2x128x128, .i32⟩) main_v67) (fun x y u v j => (Host.argReduce reducer_argmax_f32_i32 x y u v reducesTo_S2x128x128x8_S2x128x128_d3 h_S_ j).2),
    nullary main_cst_10 (constant S_ .f32 0xFF800000#32),
    binary main_v66 main_cst_10 main_v68 ((fun x v => Host.reduce FloatOps.maximumf x v reducesTo_S2x128x128x8_S2x128x128_d3 h_S_) : (⟨S2x128x128x8, .f32⟩ : BufTy).Contents (Elt F) → (⟨S_, .f32⟩ : BufTy).Contents (Elt F) → (⟨S2x128x128, .f32⟩ : BufTy).Contents (Elt F)) ]

/-- @main's operations 134 … 163 of 225 (window `main_part1`). -/
abbrev ops_part1_1 : List (HloOp τ sig (Elt F)) :=
  [ unary main_v67 main_v69 (broadcastInDim S2x128x128x1 ![0, 1, 2] bcast_S2x128x128_S2x128x128x1_0_1_2 : (⟨S2x128x128, .i32⟩ : BufTy).Contents (Elt F) → (⟨S2x128x128x1, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S2x128x128x1, .i32⟩) main_call7_v0) (broadcastInDim S2x128x128x1 ![] bcast_S_S2x128x128x1),
    TRef.binary (TRef.of (T := ⟨S2x128x128x1, .i32⟩) main_v69) (TRef.of (T := ⟨S2x128x128x1, .i32⟩) main_call7_v0) (TRef.of (T := ⟨S2x128x128x1, .i1⟩) main_call7_v1) (cmpi .slt),
    TRef.nullary (TRef.of (T := ⟨S_, .i32⟩) main_call7_c_0) (constantI S_ 32 9#32),
    TRef.unary (TRef.of (T := ⟨S_, .i32⟩) main_call7_c_0) (TRef.of (T := ⟨S2x128x128x1, .i32⟩) main_call7_v2) (broadcastInDim S2x128x128x1 ![] bcast_S_S2x128x128x1),
    TRef.binary (TRef.of (T := ⟨S2x128x128x1, .i32⟩) main_v69) (TRef.of (T := ⟨S2x128x128x1, .i32⟩) main_call7_v2) (TRef.of (T := ⟨S2x128x128x1, .i32⟩) main_call7_v3) addi,
    TRef.ternary (TRef.of (T := ⟨S2x128x128x1, .i1⟩) main_call7_v1) (TRef.of (T := ⟨S2x128x128x1, .i32⟩) main_call7_v3) (TRef.of (T := ⟨S2x128x128x1, .i32⟩) main_v69) (TRef.of (T := ⟨S2x128x128x1, .i32⟩) main_call7_v4) select,
    TRef.reshape (TRef.of (T := ⟨S2x128x128x1, .i32⟩) main_call7_v4) (TRef.of (T := ⟨S2x128x128x1x1, .i32⟩) main_call7_v5) (rfl : (.i32 : EltTy) = .i32) shapeCasts_S2x128x128x1_S2x128x128x1x1,
    TRef.nullary (TRef.of (T := ⟨S1, .i32⟩) main_call7_c_1) (constantI S1 32 8#32),
    TRef.nullary (TRef.of (T := ⟨S_, .i32⟩) main_call7_c_2) (constantI S_ 32 0#32),
    TRef.unary (TRef.of (T := ⟨S_, .i32⟩) main_call7_c_2) (TRef.of (T := ⟨S2x128x128x1x1, .i32⟩) main_call7_v6) (broadcastInDim S2x128x128x1x1 ![] bcast_S_S2x128x128x1x1),
    TRef.binary (TRef.of (T := ⟨S2x128x128x1x1, .i32⟩) main_call7_v5) (TRef.of (T := ⟨S2x128x128x1x1, .i32⟩) main_call7_v6) (TRef.of (T := ⟨S2x128x128x1x1, .i1⟩) main_call7_v7) (cmpi .sge),
    TRef.unary (TRef.of (T := ⟨S1, .i32⟩) main_call7_c_1) (TRef.of (T := ⟨S1x1x1x1x1, .i32⟩) main_call7_v8) (broadcastInDim S1x1x1x1x1 ![4] bcast_S1_S1x1x1x1x1_4),
    TRef.unary (TRef.of (T := ⟨S1x1x1x1x1, .i32⟩) main_call7_v8) (TRef.of (T := ⟨S2x128x128x1x1, .i32⟩) main_call7_v9) (broadcastInDim S2x128x128x1x1 ![0, 1, 2, 3, 4] bcast_S1x1x1x1x1_S2x128x128x1x1_0_1_2_3_4),
    TRef.binary (TRef.of (T := ⟨S2x128x128x1x1, .i32⟩) main_call7_v5) (TRef.of (T := ⟨S2x128x128x1x1, .i32⟩) main_call7_v9) (TRef.of (T := ⟨S2x128x128x1x1, .i1⟩) main_call7_v10) (cmpi .sle),
    TRef.binary (TRef.of (T := ⟨S2x128x128x1x1, .i1⟩) main_call7_v7) (TRef.of (T := ⟨S2x128x128x1x1, .i1⟩) main_call7_v10) (TRef.of (T := ⟨S2x128x128x1x1, .i1⟩) main_call7_v11) andi,
    TRef.nullary (TRef.of (T := ⟨S_, .i1⟩) main_call7_c_3) (constantI S_ 1 1#1),
    TRef.binary (TRef.of (T := ⟨S2x128x128x1x1, .i1⟩) main_call7_v11) (TRef.of (T := ⟨S_, .i1⟩) main_call7_c_3) (TRef.of (T := ⟨S2x128x128x1, .i1⟩) main_call7_v12) (fun x v => Host.reduce IntOp.andi x v reducesTo_S2x128x128x1x1_S2x128x128x1_d4 h_S_),
    TRef.binary (TRef.of (T := ⟨S2x128x128x9, .i32⟩) main_v64) (TRef.of (T := ⟨S2x128x128x1x1, .i32⟩) main_call7_v5) (TRef.of (T := ⟨S2x128x128x1, .i32⟩) main_call7_v13) (fun x i => Host.gather gather_S2x128x128x9_S2x128x128x1x1_S2x128x128x1_n_3_012_012_3_4_1111 x i),
    TRef.nullary (TRef.of (T := ⟨S_, .i32⟩) main_call7_c_4) (constantI S_ 32 2147483648#32),
    TRef.unary (TRef.of (T := ⟨S_, .i32⟩) main_call7_c_4) (TRef.of (T := ⟨S2x128x128x1, .i32⟩) main_call7_v14) (broadcastInDim S2x128x128x1 ![] bcast_S_S2x128x128x1),
    TRef.ternary (TRef.of (T := ⟨S2x128x128x1, .i1⟩) main_call7_v12) (TRef.of (T := ⟨S2x128x128x1, .i32⟩) main_call7_v13) (TRef.of (T := ⟨S2x128x128x1, .i32⟩) main_call7_v14) (TRef.of (T := ⟨S2x128x128x1, .i32⟩) main_v70) select,
    reshape main_v70 main_v71 (rfl : (.i32 : EltTy) = .i32) shapeCasts_S2x128x128x1_S2x128x128,
    nullary main_cst_11 (constant S_ .f32 0x00000000#32),
    unary main_cst_11 main_v72 (broadcastInDim S2x128x128 ![] bcast_S_S2x128x128 : (⟨S_, .f32⟩ : BufTy).Contents (Elt F) → (⟨S2x128x128, .f32⟩ : BufTy).Contents (Elt F)),
    binary main_v68 main_v72 main_v73 (cmpf .oge : (⟨S2x128x128, .f32⟩ : BufTy).Contents (Elt F) → (⟨S2x128x128, .f32⟩ : BufTy).Contents (Elt F) → (⟨S2x128x128, .i1⟩ : BufTy).Contents (Elt F)),
    unary main_v73 main_v74 ((extui 32 · natLt_1_32) : (⟨S2x128x128, .i1⟩ : BufTy).Contents (Elt F) → (⟨S2x128x128, .i32⟩ : BufTy).Contents (Elt F)),
    binary main_v71 main_v74 main_v75 (muli : (⟨S2x128x128, .i32⟩ : BufTy).Contents (Elt F) → (⟨S2x128x128, .i32⟩ : BufTy).Contents (Elt F) → (⟨S2x128x128, .i32⟩ : BufTy).Contents (Elt F)),
    nullary main_c_12 (constantI S_ 32 1#32) ]

/-- @main's operations 164 … 192 of 225 (window `main_part1`). -/
abbrev ops_part1_2 : List (HloOp τ sig (Elt F)) :=
  [ unary main_c_12 main_v76 (broadcastInDim S2x128x128 ![] bcast_S_S2x128x128 : (⟨S_, .i32⟩ : BufTy).Contents (Elt F) → (⟨S2x128x128, .i32⟩ : BufTy).Contents (Elt F)),
    nullary main_c_13 (constantI S_ 32 0#32),
    unary main_c_13 main_v77 (broadcastInDim S2x128x128 ![] bcast_S_S2x128x128 : (⟨S_, .i32⟩ : BufTy).Contents (Elt F) → (⟨S2x128x128, .i32⟩ : BufTy).Contents (Elt F)),
    binary main_v77 main_v76 main_v78 (muli : (⟨S2x128x128, .i32⟩ : BufTy).Contents (Elt F) → (⟨S2x128x128, .i32⟩ : BufTy).Contents (Elt F) → (⟨S2x128x128, .i32⟩ : BufTy).Contents (Elt F)),
    unary main_v73 main_v79 (noti : (⟨S2x128x128, .i1⟩ : BufTy).Contents (Elt F) → (⟨S2x128x128, .i1⟩ : BufTy).Contents (Elt F)),
    unary main_v79 main_v80 ((extui 32 · natLt_1_32) : (⟨S2x128x128, .i1⟩ : BufTy).Contents (Elt F) → (⟨S2x128x128, .i32⟩ : BufTy).Contents (Elt F)),
    binary main_v78 main_v80 main_v81 (muli : (⟨S2x128x128, .i32⟩ : BufTy).Contents (Elt F) → (⟨S2x128x128, .i32⟩ : BufTy).Contents (Elt F) → (⟨S2x128x128, .i32⟩ : BufTy).Contents (Elt F)),
    binary main_v75 main_v81 main_v82 (addi : (⟨S2x128x128, .i32⟩ : BufTy).Contents (Elt F) → (⟨S2x128x128, .i32⟩ : BufTy).Contents (Elt F) → (⟨S2x128x128, .i32⟩ : BufTy).Contents (Elt F)),
    unary main_v82 main_v83 (broadcastInDim S2x1x128x128 ![0, 2, 3] bcast_S2x128x128_S2x1x128x128_0_2_3 : (⟨S2x128x128, .i32⟩ : BufTy).Contents (Elt F) → (⟨S2x1x128x128, .i32⟩ : BufTy).Contents (Elt F)),
    nullary main_v84 (iotaInDim S9 32 0),
    reshape main_v84 main_v85 (rfl : (.i32 : EltTy) = .i32) shapeCasts_S9_S1x9x1x1,
    unary main_v83 main_v86 (broadcastInDim S2x9x128x128 ![0, 1, 2, 3] bcast_S2x1x128x128_S2x9x128x128_0_1_2_3 : (⟨S2x1x128x128, .i32⟩ : BufTy).Contents (Elt F) → (⟨S2x9x128x128, .i32⟩ : BufTy).Contents (Elt F)),
    unary main_v85 main_v87 (broadcastInDim S2x9x128x128 ![0, 1, 2, 3] bcast_S1x9x1x1_S2x9x128x128_0_1_2_3 : (⟨S1x9x1x1, .i32⟩ : BufTy).Contents (Elt F) → (⟨S2x9x128x128, .i32⟩ : BufTy).Contents (Elt F)),
    binary main_v86 main_v87 main_v88 (cmpi .eq : (⟨S2x9x128x128, .i32⟩ : BufTy).Contents (Elt F) → (⟨S2x9x128x128, .i32⟩ : BufTy).Contents (Elt F) → (⟨S2x9x128x128, .i1⟩ : BufTy).Contents (Elt F)),
    unary main_v88 main_v89 (uitofp .f32 : (⟨S2x9x128x128, .i1⟩ : BufTy).Contents (Elt F) → (⟨S2x9x128x128, .f32⟩ : BufTy).Contents (Elt F)),
    unary main_v89 main_v90 (broadcastInDim S2x1x9x128x128 ![0, 2, 3, 4] bcast_S2x9x128x128_S2x1x9x128x128_0_2_3_4 : (⟨S2x9x128x128, .f32⟩ : BufTy).Contents (Elt F) → (⟨S2x1x9x128x128, .f32⟩ : BufTy).Contents (Elt F)),
    unary main_v90 main_v91 (broadcastInDim S2x32x9x128x128 ![0, 1, 2, 3, 4] bcast_S2x1x9x128x128_S2x32x9x128x128_0_1_2_3_4 : (⟨S2x1x9x128x128, .f32⟩ : BufTy).Contents (Elt F) → (⟨S2x32x9x128x128, .f32⟩ : BufTy).Contents (Elt F)),
    binary main_v32 main_v91 main_v92 (mulf : (⟨S2x32x9x128x128, .f32⟩ : BufTy).Contents (Elt F) → (⟨S2x32x9x128x128, .f32⟩ : BufTy).Contents (Elt F) → (⟨S2x32x9x128x128, .f32⟩ : BufTy).Contents (Elt F)),
    nullary main_cst_14 (constant S_ .f32 0x00000000#32),
    binary main_v92 main_cst_14 main_v93 ((fun x v => Host.reduceAdd x v reducesTo_S2x32x9x128x128_S2x32x128x128_d2 h_S_) : (⟨S2x32x9x128x128, .f32⟩ : BufTy).Contents (Elt F) → (⟨S_, .f32⟩ : BufTy).Contents (Elt F) → (⟨S2x32x128x128, .f32⟩ : BufTy).Contents (Elt F)),
    unary main_v93 main_v94 ((transpose S2x128x128x32 [0, 2, 3, 1] · transposes_S2x32x128x128_S2x128x128x32_0_2_3_1) : (⟨S2x32x128x128, .f32⟩ : BufTy).Contents (Elt F) → (⟨S2x128x128x32, .f32⟩ : BufTy).Contents (Elt F)),
    unary main_v94 main_v95 (Host.floor : (⟨S2x128x128x32, .f32⟩ : BufTy).Contents (Elt F) → (⟨S2x128x128x32, .f32⟩ : BufTy).Contents (Elt F)),
    unary main_v95 main_v96 ((extractStridedSlice S2x128x128x16 ![0, 0, 0, 0] · slices_S2x128x128x32_S2x128x128x16_0_0_0_0) : (⟨S2x128x128x32, .f32⟩ : BufTy).Contents (Elt F) → (⟨S2x128x128x16, .f32⟩ : BufTy).Contents (Elt F)),
    nullary main_cst_15 (constant S_ .f32 0x43080000#32),
    unary main_cst_15 main_v97 (broadcastInDim S2x128x128x16 ![] bcast_S_S2x128x128x16 : (⟨S_, .f32⟩ : BufTy).Contents (Elt F) → (⟨S2x128x128x16, .f32⟩ : BufTy).Contents (Elt F)),
    binary main_v96 main_v97 main_v98 (mulf : (⟨S2x128x128x16, .f32⟩ : BufTy).Contents (Elt F) → (⟨S2x128x128x16, .f32⟩ : BufTy).Contents (Elt F) → (⟨S2x128x128x16, .f32⟩ : BufTy).Contents (Elt F)),
    unary main_v95 main_v99 ((extractStridedSlice S2x128x128x16 ![0, 0, 0, 16] · slices_S2x128x128x32_S2x128x128x16_0_0_0_16) : (⟨S2x128x128x32, .f32⟩ : BufTy).Contents (Elt F) → (⟨S2x128x128x16, .f32⟩ : BufTy).Contents (Elt F)),
    binary main_v98 main_v99 main_v100 (addf : (⟨S2x128x128x16, .f32⟩ : BufTy).Contents (Elt F) → (⟨S2x128x128x16, .f32⟩ : BufTy).Contents (Elt F) → (⟨S2x128x128x16, .f32⟩ : BufTy).Contents (Elt F)),
    unary main_v100 main_v101 (fptosi 32 : (⟨S2x128x128x16, .f32⟩ : BufTy).Contents (Elt F) → (⟨S2x128x128x16, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 193 … 225 of 225 (window `main_part2`). -/
abbrev ops_part2 : List (HloOp τ sig (Elt F)) :=
  [ reshape main_v101 main_v102 (rfl : (.i32 : EltTy) = .i32) shapeCasts_S2x128x128x16_S2x1x262144,
    unary main_v102 main_v103 (broadcastInDim S2x64x262144 ![0, 1, 2] bcast_S2x1x262144_S2x64x262144_0_1_2 : (⟨S2x1x262144, .i32⟩ : BufTy).Contents (Elt F) → (⟨S2x64x262144, .i32⟩ : BufTy).Contents (Elt F)),
    reshape main_v0 main_v104 (rfl : (.f32 : EltTy) = .f32) shapeCasts_S2x64x136x136_S2x64x18496,
    TRef.nullary (TRef.of (T := ⟨S_, .i32⟩) main_call8_c) (constantI S_ 32 0#32),
    TRef.unary (TRef.of (T := ⟨S_, .i32⟩) main_call8_c) (TRef.of (T := ⟨S2x64x262144, .i32⟩) main_call8_v0) (broadcastInDim S2x64x262144 ![] bcast_S_S2x64x262144),
    TRef.binary (TRef.of (T := ⟨S2x64x262144, .i32⟩) main_v103) (TRef.of (T := ⟨S2x64x262144, .i32⟩) main_call8_v0) (TRef.of (T := ⟨S2x64x262144, .i1⟩) main_call8_v1) (cmpi .slt),
    TRef.nullary (TRef.of (T := ⟨S_, .i32⟩) main_call8_c_0) (constantI S_ 32 18496#32),
    TRef.unary (TRef.of (T := ⟨S_, .i32⟩) main_call8_c_0) (TRef.of (T := ⟨S2x64x262144, .i32⟩) main_call8_v2) (broadcastInDim S2x64x262144 ![] bcast_S_S2x64x262144),
    TRef.binary (TRef.of (T := ⟨S2x64x262144, .i32⟩) main_v103) (TRef.of (T := ⟨S2x64x262144, .i32⟩) main_call8_v2) (TRef.of (T := ⟨S2x64x262144, .i32⟩) main_call8_v3) addi,
    TRef.ternary (TRef.of (T := ⟨S2x64x262144, .i1⟩) main_call8_v1) (TRef.of (T := ⟨S2x64x262144, .i32⟩) main_call8_v3) (TRef.of (T := ⟨S2x64x262144, .i32⟩) main_v103) (TRef.of (T := ⟨S2x64x262144, .i32⟩) main_call8_v4) select,
    TRef.reshape (TRef.of (T := ⟨S2x64x262144, .i32⟩) main_call8_v4) (TRef.of (T := ⟨S2x64x262144x1, .i32⟩) main_call8_v5) (rfl : (.i32 : EltTy) = .i32) shapeCasts_S2x64x262144_S2x64x262144x1,
    TRef.nullary (TRef.of (T := ⟨S1, .i32⟩) main_call8_c_1) (constantI S1 32 18495#32),
    TRef.nullary (TRef.of (T := ⟨S_, .i32⟩) main_call8_c_2) (constantI S_ 32 0#32),
    TRef.unary (TRef.of (T := ⟨S_, .i32⟩) main_call8_c_2) (TRef.of (T := ⟨S2x64x262144x1, .i32⟩) main_call8_v6) (broadcastInDim S2x64x262144x1 ![] bcast_S_S2x64x262144x1),
    TRef.binary (TRef.of (T := ⟨S2x64x262144x1, .i32⟩) main_call8_v5) (TRef.of (T := ⟨S2x64x262144x1, .i32⟩) main_call8_v6) (TRef.of (T := ⟨S2x64x262144x1, .i1⟩) main_call8_v7) (cmpi .sge),
    TRef.unary (TRef.of (T := ⟨S1, .i32⟩) main_call8_c_1) (TRef.of (T := ⟨S1x1x1x1, .i32⟩) main_call8_v8) (broadcastInDim S1x1x1x1 ![3] bcast_S1_S1x1x1x1_3),
    TRef.unary (TRef.of (T := ⟨S1x1x1x1, .i32⟩) main_call8_v8) (TRef.of (T := ⟨S2x64x262144x1, .i32⟩) main_call8_v9) (broadcastInDim S2x64x262144x1 ![0, 1, 2, 3] bcast_S1x1x1x1_S2x64x262144x1_0_1_2_3),
    TRef.binary (TRef.of (T := ⟨S2x64x262144x1, .i32⟩) main_call8_v5) (TRef.of (T := ⟨S2x64x262144x1, .i32⟩) main_call8_v9) (TRef.of (T := ⟨S2x64x262144x1, .i1⟩) main_call8_v10) (cmpi .sle),
    TRef.binary (TRef.of (T := ⟨S2x64x262144x1, .i1⟩) main_call8_v7) (TRef.of (T := ⟨S2x64x262144x1, .i1⟩) main_call8_v10) (TRef.of (T := ⟨S2x64x262144x1, .i1⟩) main_call8_v11) andi,
    TRef.nullary (TRef.of (T := ⟨S_, .i1⟩) main_call8_c_3) (constantI S_ 1 1#1),
    TRef.binary (TRef.of (T := ⟨S2x64x262144x1, .i1⟩) main_call8_v11) (TRef.of (T := ⟨S_, .i1⟩) main_call8_c_3) (TRef.of (T := ⟨S2x64x262144, .i1⟩) main_call8_v12) (fun x v => Host.reduce IntOp.andi x v reducesTo_S2x64x262144x1_S2x64x262144_d3 h_S_),
    TRef.binary (TRef.of (T := ⟨S2x64x18496, .f32⟩) main_v104) (TRef.of (T := ⟨S2x64x262144x1, .i32⟩) main_call8_v5) (TRef.of (T := ⟨S2x64x262144, .f32⟩) main_call8_v13) (fun x i => Host.gather gather_S2x64x18496_S2x64x262144x1_S2x64x262144_n_2_01_01_2_3_111 x i),
    TRef.nullary (TRef.of (T := ⟨S_, .f32⟩) main_call8_cst) (constant S_ .f32 0x7FC00000#32),
    TRef.unary (TRef.of (T := ⟨S_, .f32⟩) main_call8_cst) (TRef.of (T := ⟨S2x64x262144, .f32⟩) main_call8_v14) (broadcastInDim S2x64x262144 ![] bcast_S_S2x64x262144),
    TRef.ternary (TRef.of (T := ⟨S2x64x262144, .i1⟩) main_call8_v12) (TRef.of (T := ⟨S2x64x262144, .f32⟩) main_call8_v13) (TRef.of (T := ⟨S2x64x262144, .f32⟩) main_call8_v14) (TRef.of (T := ⟨S2x64x262144, .f32⟩) main_v105) select,
    reshape main_v105 main_v106 (rfl : (.f32 : EltTy) = .f32) shapeCasts_S2x64x262144_S2x64x128x128x16,
    binary main_v28 main_v106 main_v107 (subf : (⟨S2x64x128x128x16, .f32⟩ : BufTy).Contents (Elt F) → (⟨S2x64x128x128x16, .f32⟩ : BufTy).Contents (Elt F) → (⟨S2x64x128x128x16, .f32⟩ : BufTy).Contents (Elt F)),
    reshape main_arg1 main_v108 (rfl : (.f32 : EltTy) = .f32) shapeCasts_S64x64x4x4_S64x64x16,
    binary main_v108 main_v107 main_v109 ((fun l r => Host.dotGeneral dot_S64x64x16_S2x64x128x128x16_S64x2x128x128_12_14_0_023_n_n none l r) : (⟨S64x64x16, .f32⟩ : BufTy).Contents (Elt F) → (⟨S2x64x128x128x16, .f32⟩ : BufTy).Contents (Elt F) → (⟨S64x2x128x128, .f32⟩ : BufTy).Contents (Elt F)),
    unary main_v109 main_v110 ((transpose S2x64x128x128 [1, 0, 2, 3] · transposes_S64x2x128x128_S2x64x128x128_1_0_2_3) : (⟨S64x2x128x128, .f32⟩ : BufTy).Contents (Elt F) → (⟨S2x64x128x128, .f32⟩ : BufTy).Contents (Elt F)),
    reshape main_arg2 main_v111 (rfl : (.f32 : EltTy) = .f32) shapeCasts_S64_S1x64x1x1,
    unary main_v111 main_v112 (broadcastInDim S2x64x128x128 ![0, 1, 2, 3] bcast_S1x64x1x1_S2x64x128x128_0_1_2_3 : (⟨S1x64x1x1, .f32⟩ : BufTy).Contents (Elt F) → (⟨S2x64x128x128, .f32⟩ : BufTy).Contents (Elt F)),
    binary main_v110 main_v112 main_v113 (addf : (⟨S2x64x128x128, .f32⟩ : BufTy).Contents (Elt F) → (⟨S2x64x128x128, .f32⟩ : BufTy).Contents (Elt F) → (⟨S2x64x128x128, .f32⟩ : BufTy).Contents (Elt F)) ]

/-- @main's 225 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., nullary_bufs_sub .., unary_bufs_sub .., binary_bufs_sub .., nullary_bufs_sub .., nullary_bufs_sub .., unary_bufs_sub .., binary_bufs_sub .., nullary_bufs_sub .., nullary_bufs_sub .., unary_bufs_sub .., binary_bufs_sub .., unary_bufs_sub .., unary_bufs_sub .., reshape_bufs_sub .., unary_bufs_sub .., reshape_bufs_sub .., unary_bufs_sub .., binary_bufs_sub .., unary_bufs_sub .., unary_bufs_sub .., unary_bufs_sub .., unary_bufs_sub .., unary_bufs_sub .., nullary_bufs_sub .., unary_bufs_sub .., binary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨reshape_bufs_sub .., unary_bufs_sub .., unary_bufs_sub .., unary_bufs_sub .., nullary_bufs_sub .., unary_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., binary_bufs_sub .., nullary_bufs_sub .., unary_bufs_sub .., ternary_bufs_sub .., reshape_bufs_sub .., reshape_bufs_sub .., unary_bufs_sub .., unary_bufs_sub .., binary_bufs_sub .., nullary_bufs_sub .., binary_bufs_sub .., nullary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., nullary_bufs_sub .., binary_bufs_sub .., binary_bufs_sub .., unary_bufs_sub .., unary_bufs_sub .., unary_bufs_sub .., binary_bufs_sub .., nullary_bufs_sub .., nullary_bufs_sub .., nullary_bufs_sub .., quaternary_bufs_sub .., quaternary_bufs_sub .., nullary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., unary_bufs_sub .., binary_bufs_sub .., nullary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., nullary_bufs_sub .., unary_bufs_sub .., binary_bufs_sub .., unary_bufs_sub .., unary_bufs_sub .., binary_bufs_sub .., binary_bufs_sub .., unary_bufs_sub .., nullary_bufs_sub .., reshape_bufs_sub .., unary_bufs_sub .., unary_bufs_sub .., binary_bufs_sub .., unary_bufs_sub .., unary_bufs_sub .., unary_bufs_sub .., binary_bufs_sub .., nullary_bufs_sub .., binary_bufs_sub .., unary_bufs_sub .., unary_bufs_sub .., unary_bufs_sub .., nullary_bufs_sub .., unary_bufs_sub .., binary_bufs_sub .., unary_bufs_sub .., binary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., reshape_bufs_sub .., binary_bufs_sub .., unary_bufs_sub .., reshape_bufs_sub .., unary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_c, main_call0_v0, main_v0, main_v1, main_c_0, main_v2, main_v3, main_v4, main_c_1, main_v5, main_v6, main_v7, main_v8, main_v9, main_v10, main_v11, main_v12, main_v13, main_v14, main_v15, main_v16, main_v17, main_v18, main_cst_2, main_v19, main_v20, main_v21, main_v22, main_v23]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_cst (V0 : Valuation τ sig (Elt F)) : val0_1 V0 (no_index (Proc.devRef .tc main_cst)) = (fun i => FloatOps.ofBits .f32 (lit0 (S1x32x9x1x1.rowMajor i))) := by
  unfold val0_1
  simp only [ops_part0_0, TRef.binary, TRef.unary, TRef.toBuf, TRef.ofBuf, cast_eq]
  after_results_simp
  all_goals rfl
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v15 (V0 : Valuation τ sig (Elt F)) : val0_1 V0 (no_index (Proc.devRef .tc main_v15)) = res_main_v15 V0 := by
  unfold val0_1
  simp only [ops_part0_0, TRef.binary, TRef.unary, TRef.toBuf, TRef.ofBuf, cast_eq]
  after_results_simp
  all_goals rfl
set_option maxRecDepth 8192 in
set_option maxHeartbeats 2000000 in
theorem val0_1_main_v23 (V0 : Valuation τ sig (Elt F)) : val0_1 V0 (no_index (Proc.devRef .tc main_v23)) = fptosi 32 (addf (mulf (extractStridedSlice S2x128x128x16 ![0, 0, 0, 0] (res_main_v17 V0) slices_S2x128x128x32_S2x128x128x16_0_0_0_0) (broadcastInDim S2x128x128x16 ![] bcast_S_S2x128x128x16 (constant S_ .f32 0x43080000#32))) (extractStridedSlice S2x128x128x16 ![0, 0, 0, 16] (res_main_v17 V0) slices_S2x128x128x32_S2x128x128x16_0_0_0_16)) := by
  unfold val0_1
  simp only [ops_part0_0, TRef.binary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v24, main_v25, main_v26, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v27, main_v28, main_v29, main_v30, main_v31, main_v32]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v0 (V0 : Valuation τ sig (Elt F)) : val0_2 V0 (no_index (Proc.devRef .tc main_v0)) = res_main_v0 V0 :=
  (val0_2_keep V0 main_v0 (by decide)).trans (val0_1_main_v0 V0)
set_option maxRecDepth 8192 in
set_option maxHeartbeats 2000000 in
theorem val0_2_main_v28 (V0 : Valuation τ sig (Elt F)) : val0_2 V0 (no_index (Proc.devRef .tc main_v28)) = res_main_v28 V0 := by
  unfold val0_2
  simp only [ops_part0_1, TRef.binary, TRef.nullary, TRef.reshape, TRef.ternary, TRef.unary, TRef.toBuf, TRef.ofBuf, cast_eq]
  after_results_simp
  simp only [val0_1_main_v23, val0_1_main_v0] <;> rfl
set_option maxRecDepth 8192 in
set_option maxHeartbeats 2000000 in
theorem val0_2_main_v32 (V0 : Valuation τ sig (Elt F)) : val0_2 V0 (no_index (Proc.devRef .tc main_v32)) = res_main_v32 V0 := by
  unfold val0_2
  simp only [ops_part0_1, TRef.binary, TRef.nullary, TRef.reshape, TRef.ternary, TRef.unary, TRef.toBuf, TRef.ofBuf, cast_eq]
  after_results_simp
  simp only [val0_1_main_cst, val0_1_main_v15] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v33, main_v34, main_v35, main_v36, main_cst_3, main_v37, main_v38, main_v39, main_v40, main_v41, main_v42, main_v43, main_v44, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_v0 (V0 : Valuation τ sig (Elt F)) : val0_3 V0 (no_index (Proc.devRef .tc main_v0)) = res_main_v0 V0 :=
  (val0_3_keep V0 main_v0 (by decide)).trans (val0_2_main_v0 V0)
theorem val0_3_main_v28 (V0 : Valuation τ sig (Elt F)) : val0_3 V0 (no_index (Proc.devRef .tc main_v28)) = res_main_v28 V0 :=
  (val0_3_keep V0 main_v28 (by decide)).trans (val0_2_main_v28 V0)
theorem val0_3_main_v32 (V0 : Valuation τ sig (Elt F)) : val0_3 V0 (no_index (Proc.devRef .tc main_v32)) = res_main_v32 V0 :=
  (val0_3_keep V0 main_v32 (by decide)).trans (val0_2_main_v32 V0)
set_option maxRecDepth 8192 in
set_option maxHeartbeats 2000000 in
theorem val0_3_main_v44 (V0 : Valuation τ sig (Elt F)) : val0_3 V0 (no_index (Proc.devRef .tc main_v44)) = shapeCast _ (res_main_v0 V0) shapeCasts_S2x64x136x136_S2x64x18496 := by
  unfold val0_3
  simp only [ops_part0_2, TRef.binary, TRef.nullary, TRef.reshape, TRef.ternary, TRef.unary, TRef.toBuf, TRef.ofBuf, cast_eq]
  after_results_simp
  simp only [val0_2_main_v0] <;> rfl
set_option maxRecDepth 8192 in
set_option maxHeartbeats 2000000 in
theorem val0_3_main_call2_v5 (V0 : Valuation τ sig (Elt F)) : val0_3 V0 (no_index (Proc.devRef .tc main_call2_v5)) = res_main_call2_v5 V0 := by
  unfold val0_3
  simp only [ops_part0_2, TRef.binary, TRef.nullary, TRef.reshape, TRef.ternary, TRef.unary, TRef.toBuf, TRef.ofBuf, cast_eq]
  after_results_simp
  simp only [val0_2_main_v32] <;> rfl
set_option maxRecDepth 8192 in
set_option maxHeartbeats 2000000 in
theorem val0_3_main_call2_v11 (V0 : Valuation τ sig (Elt F)) : val0_3 V0 (no_index (Proc.devRef .tc main_call2_v11)) = andi (cmpi .sge (res_main_call2_v5 V0) (broadcastInDim S2x64x2359296x1 ![] bcast_S_S2x64x2359296x1 (constantI S_ 32 0#32))) (cmpi .sle (res_main_call2_v5 V0) (broadcastInDim S2x64x2359296x1 ![0, 1, 2, 3] bcast_S1x1x1x1_S2x64x2359296x1_0_1_2_3 (broadcastInDim S1x1x1x1 ![3] bcast_S1_S1x1x1x1_3 (constantI S1 32 18495#32)))) := by
  unfold val0_3
  simp only [ops_part0_2, TRef.binary, TRef.nullary, TRef.reshape, TRef.ternary, TRef.unary, TRef.toBuf, TRef.ofBuf, cast_eq]
  after_results_simp
  simp only [val0_2_main_v32] <;> rfl
set_option maxRecDepth 8192 in
set_option maxHeartbeats 2000000 in
theorem val0_3_main_call2_c_3 (V0 : Valuation τ sig (Elt F)) : val0_3 V0 (no_index (Proc.devRef .tc main_call2_c_3)) = constantI S_ 1 1#1 := by
  unfold val0_3
  simp only [ops_part0_2, TRef.binary, TRef.nullary, TRef.reshape, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_call2_v12, main_call2_v13, main_call2_cst, main_call2_v14, main_v45, main_v46, main_v47, main_v48, main_v49, main_v50, main_cst_4, main_v51, main_cst_5]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_v0 (V0 : Valuation τ sig (Elt F)) : val1 V0 (no_index (Proc.devRef .tc main_v0)) = res_main_v0 V0 :=
  (val1_keep V0 main_v0 (by decide)).trans (val0_3_main_v0 V0)
theorem val1_main_v28 (V0 : Valuation τ sig (Elt F)) : val1 V0 (no_index (Proc.devRef .tc main_v28)) = res_main_v28 V0 :=
  (val1_keep V0 main_v28 (by decide)).trans (val0_3_main_v28 V0)
theorem val1_main_v32 (V0 : Valuation τ sig (Elt F)) : val1 V0 (no_index (Proc.devRef .tc main_v32)) = res_main_v32 V0 :=
  (val1_keep V0 main_v32 (by decide)).trans (val0_3_main_v32 V0)
set_option maxRecDepth 8192 in
set_option maxHeartbeats 1300000 in
theorem val1_main_v51 (V0 : Valuation τ sig (Elt F)) : val1 V0 (no_index (Proc.devRef .tc main_v51)) = Host.reduceAdd (mulf (shapeCast _ (shapeCast _ (select (Host.reduce IntOp.andi (andi (cmpi .sge (res_main_call2_v5 V0) (broadcastInDim S2x64x2359296x1 ![] bcast_S_S2x64x2359296x1 (constantI S_ 32 0#32))) (cmpi .sle (res_main_call2_v5 V0) (broadcastInDim S2x64x2359296x1 ![0, 1, 2, 3] bcast_S1x1x1x1_S2x64x2359296x1_0_1_2_3 (broadcastInDim S1x1x1x1 ![3] bcast_S1_S1x1x1x1_3 (constantI S1 32 18495#32))))) (constantI S_ 1 1#1) reducesTo_S2x64x2359296x1_S2x64x2359296_d3 h_S_) (Host.gather gather_S2x64x18496_S2x64x2359296x1_S2x64x2359296_n_2_01_01_2_3_111 (shapeCast _ (res_main_v0 V0) shapeCasts_S2x64x136x136_S2x64x18496) (res_main_call2_v5 V0)) (broadcastInDim S2x64x2359296 ![] bcast_S_S2x64x2359296 (constant S_ .f32 0x7FC00000#32))) shapeCasts_S2x64x2359296_S2x64x1152x128x16) shapeCasts_S2x64x1152x128x16_S2x64x9x128x128x16) (broadcastInDim S2x64x9x128x128x16 ![0, 1, 2, 3, 4, 5] bcast_S2x64x1x128x128x16_S2x64x9x128x128x16_0_1_2_3_4_5 (broadcastInDim S2x64x1x128x128x16 ![0, 1, 3, 4, 5] bcast_S2x64x128x128x16_S2x64x1x128x128x16_0_1_3_4_5 (res_main_v28 V0)))) (constant S_ .f32 0x00000000#32) reducesTo_S2x64x9x128x128x16_S2x9x128x128x16_d1 h_S_ := by
  unfold val1
  simp only [ops_part0_3, TRef.binary, TRef.nullary, TRef.ternary, TRef.unary, TRef.toBuf, TRef.ofBuf, cast_eq]
  after_results_simp
  simp only [val0_3_main_v28, val0_3_main_call2_v5, val0_3_main_v44, val0_3_main_call2_c_3, val0_3_main_call2_v11] <;> rfl
set_option maxRecDepth 8192 in
set_option maxHeartbeats 1300000 in
theorem val1_main_cst_5 (V0 : Valuation τ sig (Elt F)) : val1 V0 (no_index (Proc.devRef .tc main_cst_5)) = constant S_ .f32 0x42800000#32 := by
  unfold val1
  simp only [ops_part0_3, TRef.binary, TRef.nullary, TRef.ternary, TRef.unary, TRef.toBuf, TRef.ofBuf, cast_eq]
  after_results_simp
  all_goals rfl

/-- The device's buffer contents after @main's first 133 operations. -/
def val1_1 (V0 : Valuation τ sig (Elt F)) : Valuation τ sig (Elt F) := after ops_part1_0 (val1 V0)
/-- The buffers that window `ops_part1_0`'s operations write. -/
abbrev ops_part1_0_W : List (Ref sig .tc) := [main_v52, main_v53, main_v54, main_v55, main_cst_6, main_v56, main_v57, main_cst_7, main_v58, main_v59, main_cst_8, main_v60, main_cst_9, main_v61, main_v62, main_v63, main_call3_v0, main_call3_v1_0, main_v64, main_v65, main_call5_v0, main_call5_v1, main_v66, main_call6_v0, main_call6_cst, main_call6_c, main_call6_v1_0, main_v67, main_cst_10, main_v68]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v0 (V0 : Valuation τ sig (Elt F)) : val1_1 V0 (no_index (Proc.devRef .tc main_v0)) = res_main_v0 V0 :=
  (val1_1_keep V0 main_v0 (by decide)).trans (val1_main_v0 V0)
theorem val1_1_main_v28 (V0 : Valuation τ sig (Elt F)) : val1_1 V0 (no_index (Proc.devRef .tc main_v28)) = res_main_v28 V0 :=
  (val1_1_keep V0 main_v28 (by decide)).trans (val1_main_v28 V0)
theorem val1_1_main_v32 (V0 : Valuation τ sig (Elt F)) : val1_1 V0 (no_index (Proc.devRef .tc main_v32)) = res_main_v32 V0 :=
  (val1_1_keep V0 main_v32 (by decide)).trans (val1_main_v32 V0)
set_option maxRecDepth 8192 in
set_option maxHeartbeats 2000000 in
theorem val1_1_main_v64 (V0 : Valuation τ sig (Elt F)) : val1_1 V0 (no_index (Proc.devRef .tc main_v64)) = (Host.sort2 S2x128x128x9 3 comparator_f32_i32_d3 (res_main_v63 V0) (res_main_call3_v0 V0)).2 := by
  unfold val1_1
  simp only [ops_part1_0, TRef.binary, TRef.nullary, TRef.quaternary, TRef.unary, TRef.toBuf, TRef.ofBuf, cast_eq]
  after_results_simp
  simp only [val1_main_cst_5, val1_main_v51] <;> rfl
set_option maxRecDepth 8192 in
set_option maxHeartbeats 2000000 in
theorem val1_1_main_v67 (V0 : Valuation τ sig (Elt F)) : val1_1 V0 (no_index (Proc.devRef .tc main_v67)) = (fun j => (Host.argReduce reducer_argmax_f32_i32 (res_main_v66 V0) (res_main_call6_v0 V0) (res_main_call6_cst V0) (res_main_call6_c V0) reducesTo_S2x128x128x8_S2x128x128_d3 h_S_ j).2) := by
  unfold val1_1
  simp only [ops_part1_0, TRef.binary, TRef.nullary, TRef.quaternary, TRef.unary, TRef.toBuf, TRef.ofBuf, cast_eq]
  after_results_simp
  simp only [val1_main_cst_5, val1_main_v51] <;> rfl
set_option maxRecDepth 8192 in
set_option maxHeartbeats 2000000 in
theorem val1_1_main_v68 (V0 : Valuation τ sig (Elt F)) : val1_1 V0 (no_index (Proc.devRef .tc main_v68)) = Host.reduce FloatOps.maximumf (res_main_v66 V0) (constant S_ .f32 0xFF800000#32) reducesTo_S2x128x128x8_S2x128x128_d3 h_S_ := by
  unfold val1_1
  simp only [ops_part1_0, TRef.binary, TRef.nullary, TRef.quaternary, TRef.unary, TRef.toBuf, TRef.ofBuf, cast_eq]
  after_results_simp
  simp only [val1_main_cst_5, val1_main_v51] <;> rfl

/-- The device's buffer contents after @main's first 163 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v69, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_c_4, main_call7_v14, main_v70, main_v71, main_cst_11, main_v72, main_v73, main_v74, main_v75, main_c_12]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v0 (V0 : Valuation τ sig (Elt F)) : val1_2 V0 (no_index (Proc.devRef .tc main_v0)) = res_main_v0 V0 :=
  (val1_2_keep V0 main_v0 (by decide)).trans (val1_1_main_v0 V0)
theorem val1_2_main_v28 (V0 : Valuation τ sig (Elt F)) : val1_2 V0 (no_index (Proc.devRef .tc main_v28)) = res_main_v28 V0 :=
  (val1_2_keep V0 main_v28 (by decide)).trans (val1_1_main_v28 V0)
theorem val1_2_main_v32 (V0 : Valuation τ sig (Elt F)) : val1_2 V0 (no_index (Proc.devRef .tc main_v32)) = res_main_v32 V0 :=
  (val1_2_keep V0 main_v32 (by decide)).trans (val1_1_main_v32 V0)
set_option maxRecDepth 8192 in
set_option maxHeartbeats 2000000 in
theorem val1_2_main_v73 (V0 : Valuation τ sig (Elt F)) : val1_2 V0 (no_index (Proc.devRef .tc main_v73)) = res_main_v73 V0 := by
  unfold val1_2
  simp only [ops_part1_1, TRef.binary, TRef.nullary, TRef.reshape, TRef.ternary, TRef.unary, TRef.toBuf, TRef.ofBuf, cast_eq]
  after_results_simp
  simp only [val1_1_main_v68] <;> rfl
set_option maxRecDepth 8192 in
set_option maxHeartbeats 2000000 in
theorem val1_2_main_v75 (V0 : Valuation τ sig (Elt F)) : val1_2 V0 (no_index (Proc.devRef .tc main_v75)) = muli (shapeCast _ (select (Host.reduce IntOp.andi (andi (cmpi .sge (res_main_call7_v5 V0) (broadcastInDim S2x128x128x1x1 ![] bcast_S_S2x128x128x1x1 (constantI S_ 32 0#32))) (cmpi .sle (res_main_call7_v5 V0) (broadcastInDim S2x128x128x1x1 ![0, 1, 2, 3, 4] bcast_S1x1x1x1x1_S2x128x128x1x1_0_1_2_3_4 (broadcastInDim S1x1x1x1x1 ![4] bcast_S1_S1x1x1x1x1_4 (constantI S1 32 8#32))))) (constantI S_ 1 1#1) reducesTo_S2x128x128x1x1_S2x128x128x1_d4 h_S_) (Host.gather gather_S2x128x128x9_S2x128x128x1x1_S2x128x128x1_n_3_012_012_3_4_1111 ((Host.sort2 S2x128x128x9 3 comparator_f32_i32_d3 (res_main_v63 V0) (res_main_call3_v0 V0)).2) (res_main_call7_v5 V0)) (broadcastInDim S2x128x128x1 ![] bcast_S_S2x128x128x1 (constantI S_ 32 2147483648#32))) shapeCasts_S2x128x128x1_S2x128x128) (extui 32 (res_main_v73 V0) natLt_1_32) := by
  unfold val1_2
  simp only [ops_part1_1, TRef.binary, TRef.nullary, TRef.reshape, TRef.ternary, TRef.unary, TRef.toBuf, TRef.ofBuf, cast_eq]
  after_results_simp
  simp only [val1_1_main_v68, val1_1_main_v67, val1_1_main_v64] <;> rfl
set_option maxRecDepth 8192 in
set_option maxHeartbeats 2000000 in
theorem val1_2_main_c_12 (V0 : Valuation τ sig (Elt F)) : val1_2 V0 (no_index (Proc.devRef .tc main_c_12)) = constantI S_ 32 1#32 := by
  unfold val1_2
  simp only [ops_part1_1, TRef.binary, TRef.nullary, TRef.reshape, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v76, main_c_13, main_v77, main_v78, main_v79, main_v80, main_v81, main_v82, main_v83, main_v84, main_v85, main_v86, main_v87, main_v88, main_v89, main_v90, main_v91, main_v92, main_cst_14, main_v93, main_v94, main_v95, main_v96, main_cst_15, main_v97, main_v98, main_v99, main_v100, main_v101]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v0 (V0 : Valuation τ sig (Elt F)) : val2 V0 (no_index (Proc.devRef .tc main_v0)) = res_main_v0 V0 :=
  (val2_keep V0 main_v0 (by decide)).trans (val1_2_main_v0 V0)
theorem val2_main_v28 (V0 : Valuation τ sig (Elt F)) : val2 V0 (no_index (Proc.devRef .tc main_v28)) = res_main_v28 V0 :=
  (val2_keep V0 main_v28 (by decide)).trans (val1_2_main_v28 V0)
set_option maxRecDepth 8192 in
set_option maxHeartbeats 2000000 in
theorem val2_main_v101 (V0 : Valuation τ sig (Elt F)) : val2 V0 (no_index (Proc.devRef .tc main_v101)) = fptosi 32 (addf (mulf (extractStridedSlice S2x128x128x16 ![0, 0, 0, 0] (res_main_v95 V0) slices_S2x128x128x32_S2x128x128x16_0_0_0_0) (broadcastInDim S2x128x128x16 ![] bcast_S_S2x128x128x16 (constant S_ .f32 0x43080000#32))) (extractStridedSlice S2x128x128x16 ![0, 0, 0, 16] (res_main_v95 V0) slices_S2x128x128x32_S2x128x128x16_0_0_0_16)) := by
  unfold val2
  simp only [ops_part1_2]
  after_results_simp
  simp only [val1_2_main_v73, val1_2_main_c_12, val1_2_main_v75, val1_2_main_v32] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v102, main_v103, main_v104, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v105, main_v106, main_v107, main_v108, main_v109, main_v110, main_v111, main_v112, main_v113]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
set_option maxRecDepth 8192 in
set_option maxHeartbeats 2000000 in
theorem val3_main_v113 (V0 : Valuation τ sig (Elt F)) : val3 V0 (no_index (Proc.devRef .tc main_v113)) = addf (transpose S2x64x128x128 [1, 0, 2, 3] (Host.dotGeneral dot_S64x64x16_S2x64x128x128x16_S64x2x128x128_12_14_0_023_n_n none (shapeCast _ (V0 (Proc.devRef .tc main_arg1)) shapeCasts_S64x64x4x4_S64x64x16) (subf (res_main_v28 V0) (shapeCast _ (select (Host.reduce IntOp.andi (andi (cmpi .sge (res_main_call8_v5 V0) (broadcastInDim S2x64x262144x1 ![] bcast_S_S2x64x262144x1 (constantI S_ 32 0#32))) (cmpi .sle (res_main_call8_v5 V0) (broadcastInDim S2x64x262144x1 ![0, 1, 2, 3] bcast_S1x1x1x1_S2x64x262144x1_0_1_2_3 (broadcastInDim S1x1x1x1 ![3] bcast_S1_S1x1x1x1_3 (constantI S1 32 18495#32))))) (constantI S_ 1 1#1) reducesTo_S2x64x262144x1_S2x64x262144_d3 h_S_) (Host.gather gather_S2x64x18496_S2x64x262144x1_S2x64x262144_n_2_01_01_2_3_111 (shapeCast _ (res_main_v0 V0) shapeCasts_S2x64x136x136_S2x64x18496) (res_main_call8_v5 V0)) (broadcastInDim S2x64x262144 ![] bcast_S_S2x64x262144 (constant S_ .f32 0x7FC00000#32))) shapeCasts_S2x64x262144_S2x64x128x128x16))) transposes_S64x2x128x128_S2x64x128x128_1_0_2_3) (broadcastInDim S2x64x128x128 ![0, 1, 2, 3] bcast_S1x64x1x1_S2x64x128x128_0_1_2_3 (shapeCast _ (V0 (Proc.devRef .tc main_arg2)) shapeCasts_S64_S1x64x1x1)) := by
  unfold val3
  simp only [ops_part2, TRef.binary, TRef.nullary, TRef.reshape, TRef.ternary, TRef.unary, TRef.toBuf, TRef.ofBuf, cast_eq]
  after_results_simp
  simp only [val2_main_arg2, val2_main_v101, val2_main_v0, val2_main_v28, val2_main_arg1] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113) = addf (transpose S2x64x128x128 [1, 0, 2, 3] (Host.dotGeneral dot_S64x64x16_S2x64x128x128x16_S64x2x128x128_12_14_0_023_n_n none (shapeCast _ ((launchContents m c) (Proc.devRef .tc main_arg1)) shapeCasts_S64x64x4x4_S64x64x16) (subf (res_main_v28 (launchContents m c)) (shapeCast _ (select (Host.reduce IntOp.andi (andi (cmpi .sge (res_main_call8_v5 (launchContents m c)) (broadcastInDim S2x64x262144x1 ![] bcast_S_S2x64x262144x1 (constantI S_ 32 0#32))) (cmpi .sle (res_main_call8_v5 (launchContents m c)) (broadcastInDim S2x64x262144x1 ![0, 1, 2, 3] bcast_S1x1x1x1_S2x64x262144x1_0_1_2_3 (broadcastInDim S1x1x1x1 ![3] bcast_S1_S1x1x1x1_3 (constantI S1 32 18495#32))))) (constantI S_ 1 1#1) reducesTo_S2x64x262144x1_S2x64x262144_d3 h_S_) (Host.gather gather_S2x64x18496_S2x64x262144x1_S2x64x262144_n_2_01_01_2_3_111 (shapeCast _ (res_main_v0 (launchContents m c)) shapeCasts_S2x64x136x136_S2x64x18496) (res_main_call8_v5 (launchContents m c))) (broadcastInDim S2x64x262144 ![] bcast_S_S2x64x262144 (constant S_ .f32 0x7FC00000#32))) shapeCasts_S2x64x262144_S2x64x128x128x16))) transposes_S64x2x128x128_S2x64x128x128_1_0_2_3) (broadcastInDim S2x64x128x128 ![0, 1, 2, 3] bcast_S1x64x1x1_S2x64x128x128_0_1_2_3 (shapeCast _ ((launchContents m c) (Proc.devRef .tc main_arg2)) shapeCasts_S64_S1x64x1x1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v113).trans ((congrFun (after_ops (launchContents m c)) (Proc.devRef .tc main_v113)).trans (val3_main_v113 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.ReferenceIdeal.Value

end
-- ==== Proof.Window.lean ====
/-
  What the kernel's body reads of its window of the padded image: a load of the window scratch at row offset `a` and
  column offset `b` holds, at channel `ch`, row `h` and column `w` of the tile, the padded image at channel `ch`, row
  `8 t + h + a` and column `w + b`, where `t` is the tile's number.
-/
module

public import proofs.«01_k».proof.Proof.Gen.KernelIdeal.Value
public import Idealize.ShloMosaic.Lib.Pointwise
public import Idealize.ShloMosaic.Lib.Pipeline.ValueKit.Basic

@[expose] public section

noncomputable section

namespace Cert.Prf

open Idealize.ShloMosaic Cert.KernelIdeal Cert.KernelIdeal.Gen

/-- One image of a padded block, as a function of the channel and of a row and a column given as naturals. -/
def img (x0 : Vec Ideal S1x64x136x136 .f32) (ch : Fin 64) (r s : ℕ) : EReal :=
  if h : r < 136 ∧ s < 136 then x0 (ix4 (n0 := 1) (n1 := 64) (n2 := 136) (n3 := 136) 0 ch ⟨r, h.1⟩ ⟨s, h.2⟩) else 0

/-- Inside its bounds the image is the block's entry. -/
theorem img_of_lt (x0 : Vec Ideal S1x64x136x136 .f32) (ch : Fin 64) (r s : ℕ) (hr : r < 136) (hs : s < 136) :
    img x0 ch r s = x0 (ix4 (n0 := 1) (n1 := 64) (n2 := 136) (n3 := 136) 0 ch ⟨r, hr⟩ ⟨s, hs⟩) := dif_pos ⟨hr, hs⟩

variable (c : Dev nD) (i : grid0.Coords) (arg2 : Memref sig .tc .vmem S1x64x136x136 .f32) (harg2 : arg2.IsWhole)
  (arg6 : Memref sig .tc .vmem S64x16x136 .f32) (x0 : Vec Ideal S1x64x136x136 .f32)

/-- A load of the window scratch, at an index. -/
theorem win_load (a b : ℕ) (inb : ∀ d, (![0, a, b] : Fin 3 → ℕ) d + (![64, 8, 128] : Fin 3 → ℕ) d ≤ S64x16x136.size d)
    (ch : Fin 64) (h : Fin 8) (w : Fin 128) :
    arg6.view.readCov (kernelRun0_A.sl.HS0_1 (F := Ideal) c i arg2 harg2 x0)
      (Rect.unit (s := S64x16x136) ![0, a, b] ![64, 8, 128] inb).toLoadRect (ix3 (n0 := 64) (n1 := 8) (n2 := 128) ch h w)
      = img x0 ch (8 * (i 1).val + h + a) (w + b) := by
  have hi : (i 1).val < 16 := (i 1).isLt
  have ha : a + 8 ≤ 16 := inb 1
  have hb : b + 128 ≤ 136 := inb 2
  rw [img_of_lt x0 ch _ _ (by omega) (by omega)]
  rw [View.readCov_eq_canon']
  unfold kernelRun0_A.sl.HS0_1
  rw [View.canon_cons_unit_lit _ _ _ (by decide)]
  unfold k0_pay3
  simp only [View.readAt_eq_ld, harg2.read_unread]
  pointwise [k0_off1_eq]
  simp only [Nat.add_assoc, Nat.add_comm, Nat.add_left_comm]

end Cert.Prf

end
-- ==== Proof.Select.lean ====
/-
  The selection rule on nine numbers, with no program in it.

  * `place s` is the stable order of the numbers `s`: `place s r` is the position of the number that comes `r`-th
    when they are put in ascending order, equal numbers keeping their order.
  * `rank s g` is the number of positions that come before `g` in that order; `rank_place` says that it inverts
    `place`.
  * `firstMax d` is the first position at which `d` takes its greatest value.
  * `chosen s` is the position chosen: of the steps from one number to the next in ascending order, the first greatest
    one starts at it.
-/
module

public import Idealize.ShloMosaic.Lib.SortFacts
public import Idealize.ShloMosaic.Lib.Pointwise

@[expose] public section

noncomputable section

namespace Cert.Prf

open Idealize.ShloMosaic

section order
variable {n : ℕ} (s : Fin n → EReal)

/-- "The number at `a` is less than the number at `b`". -/
def before (a b : Fin n) : Bool := decide (s a < s b)

/-- "`a` comes before `b`": its number is less, or they are equal and `a` is the earlier position. -/
def lexBefore (a b : Fin n) : Bool := decide (s a < s b ∨ (s a = s b ∧ a < b))

/-- The stable order: the position of the number that comes `r`-th in ascending order. -/
def place (r : Fin n) : Fin n := sortedFrom (before s) r

/-- How many positions come before `g`. -/
def rank (g : Fin n) : ℕ := (Finset.univ.filter fun j => lexBefore s j g = true).card

/-- No position comes before itself. -/
theorem lexBefore_irrefl (a : Fin n) : lexBefore s a a = false := by simp [lexBefore]

/-- Of two positions not both come before the other. -/
theorem lexBefore_asymm (a b : Fin n) (h : lexBefore s a b = true) : lexBefore s b a = false := by
  simp only [lexBefore, decide_eq_true_eq, decide_eq_false_iff_not] at *
  rcases h with h | ⟨h, h'⟩
  · rintro (g | ⟨g, -⟩)
    · exact lt_asymm h g
    · exact h.ne' g
  · rintro (g | ⟨-, g⟩)
    · exact g.ne' h
    · exact lt_asymm h' g

/-- Of two different positions one comes before the other. -/
theorem lexBefore_total (a b : Fin n) (h : a ≠ b) : lexBefore s a b = true ∨ lexBefore s b a = true := by
  simp only [lexBefore, decide_eq_true_eq]
  rcases lt_trichotomy (s a) (s b) with g | g | g
  · exact .inl (.inl g)
  · rcases lt_or_gt_of_ne h with h | h
    · exact .inl (.inr ⟨g, h⟩)
    · exact .inr (.inr ⟨g.symm, h⟩)
  · exact .inr (.inl g)

/-- Not coming before is transitive. -/
theorem lexBefore_negTrans (a b c : Fin n) (hab : lexBefore s a b = false) (hbc : lexBefore s b c = false) :
    lexBefore s a c = false := by
  simp only [lexBefore, decide_eq_false_iff_not, not_or, not_lt, not_and] at *
  refine ⟨hbc.1.trans hab.1, fun h => ?_⟩
  have h1 : s a = s b := le_antisymm (h ▸ hbc.1) hab.1
  have h2 : s b = s c := h1 ▸ h
  exact (hbc.2 h2).trans (hab.2 h1)

/-- On a list in which positions only rise, the stable sort by the numbers alone is the sort by number and then
    position. -/
theorem stableSort_before_eq (l : List (Fin n)) (hl : l.Pairwise (· < ·)) :
    stableSort (before s) l = stableSort (lexBefore s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp only [before, lexBefore, decide_eq_decide]
    exact ⟨.inl, fun h => h.resolve_right fun h => lt_asymm h.2 hab⟩

/-- The places are those that a stable sort gives. -/
theorem place_eq (r : Fin n) : place s r = sortedFrom (lexBefore s) r := by
  unfold place sortedFrom
  have h : sortPositions n (before s) = sortPositions n (lexBefore s) :=
    stableSort_before_eq s _ (List.pairwise_lt_finRange n)
  simp only [List.get_eq_getElem, h, Fin.val_cast]

/-- Every position has a place. -/
theorem place_surjective : Function.Surjective (place s) := sortedFrom_surjective _

/-- No position has two places. -/
theorem place_injective : Function.Injective (place s) := sortedFrom_injective _

/-- Among the places of the order, coming before is being at an earlier place. -/
theorem lexBefore_place (i j : Fin n) : lexBefore s (place s i) (place s j) = true ↔ i < j := by
  have key : ∀ i j : Fin n, i < j → lexBefore s (place s j) (place s i) = false := fun i j h => by
    rw [place_eq, place_eq]
    exact sortedFrom_noInversion _ _ (lexBefore_asymm s) (fun _ _ h => h) (lexBefore_negTrans s) i j h
  refine ⟨fun h => ?_, fun h => ?_⟩
  · rcases lt_trichotomy i j with g | g | g
    · exact g
    · subst g; rw [lexBefore_irrefl] at h; exact absurd h (by simp)
    · rw [key j i g] at h; exact absurd h (by simp)
  · refine (lexBefore_total s _ _ fun e => h.ne (place_injective s e)).resolve_right ?_
    rw [key i j h]; simp

/-- The number of positions before the `r`-th one is `r`. -/
theorem rank_place (r : Fin n) : rank s (place s r) = r.val := by
  have h : (Finset.univ.filter fun j => lexBefore s j (place s r) = true) = (Finset.Iio r).image (place s) := by
    ext j
    obtain ⟨i, rfl⟩ := place_surjective s j
    simp only [Finset.mem_filter, Finset.mem_univ, true_and, Finset.mem_image, Finset.mem_Iio, lexBefore_place]
    exact ⟨fun h => ⟨i, h, rfl⟩, fun ⟨k, hk, e⟩ => place_injective s e ▸ hk⟩
  rw [rank, h, Finset.card_image_of_injective _ (place_injective s), Fin.card_Iio]

/-- A position has rank `r` exactly when it is the `r`-th in the order. -/
theorem rank_eq_iff (g r : Fin n) : rank s g = r.val ↔ g = place s r := by
  obtain ⟨i, rfl⟩ := place_surjective s g
  rw [rank_place]
  exact ⟨fun h => by rw [Fin.ext h], fun h => by rw [place_injective s h]⟩

/-- The numbers rise along the order. -/
theorem place_le (i j : Fin n) (h : i ≤ j) : s (place s i) ≤ s (place s j) := by
  rcases h.eq_or_lt with rfl | h
  · exact le_rfl
  · have := (lexBefore_place s i j).mpr h
    simp only [lexBefore, decide_eq_true_eq] at this
    rcases this with g | g
    · exact g.le
    · exact g.1.le

end order

section firstMax
variable {n : ℕ} (d : Fin (n + 1) → EReal)

/-- `m` is the first position of the greatest value. -/
def IsFirstMax (m : Fin (n + 1)) : Prop := (∀ r, d r ≤ d m) ∧ ∀ r, r < m → d r < d m

/-- A first greatest position exists. -/
theorem exists_isFirstMax : ∃ m, IsFirstMax d m := by
  obtain ⟨k, -, hk'⟩ := Finset.exists_max_image Finset.univ d Finset.univ_nonempty
  have hk : ∀ q, d q ≤ d k := fun q => hk' q (Finset.mem_univ q)
  have hne : (Finset.univ.filter fun r => ∀ q, d q ≤ d r).Nonempty := ⟨k, by simpa using hk⟩
  refine ⟨(Finset.univ.filter fun r => ∀ q, d q ≤ d r).min' hne, ?_, ?_⟩
  · have := Finset.min'_mem _ hne
    simpa using this
  · intro r hr
    have h1 := Finset.min'_mem _ hne
    simp only [Finset.mem_filter, Finset.mem_univ, true_and] at h1
    refine lt_of_le_of_ne (h1 r) fun e => ?_
    have : r ∈ Finset.univ.filter fun r => ∀ q, d q ≤ d r := by
      simp only [Finset.mem_filter, Finset.mem_univ, true_and]
      exact fun q => e ▸ h1 q
    exact absurd (Finset.min'_le _ _ this) (not_le.mpr hr)

/-- The first position of the greatest value. -/
def firstMax : Fin (n + 1) := (exists_isFirstMax d).choose

/-- The first greatest position is one. -/
theorem firstMax_spec : IsFirstMax d (firstMax d) := (exists_isFirstMax d).choose_spec

/-- There is only one first greatest position. -/
theorem IsFirstMax.unique {m m' : Fin (n + 1)} (h : IsFirstMax d m) (h' : IsFirstMax d m') : m = m' := by
  rcases lt_trichotomy m m' with g | g | g
  · exact absurd (h.1 m') (not_le.mpr (h'.2 m g))
  · exact g
  · exact absurd (h'.1 m) (not_le.mpr (h.2 m' g))

end firstMax

/-- The steps between neighbours in ascending order. -/
def steps (s : Fin 9 → EReal) (r : Fin 8) : EReal := s (place s r.succ) - s (place s r.castSucc)

/-- The position chosen. -/
def chosen (s : Fin 9 → EReal) : Fin 9 := place s (firstMax (steps s)).castSucc

end Cert.Prf

end
-- ==== Proof.Rule.lean ====
/-
  The receptive-field selection at one pixel, with no program in it. An image is a function of a channel, a row and a
  column; it is padded by four on every side, so pixel `(y, x)` lies at row `y + 4` and column `x + 4`.

  There are nine candidate rings of sixteen samples each: ring `g` puts its sample `n` at row `y + rowOff g n` and column
  `x + colOff g n`.
-/
module

public import proofs.«01_k».proof.Proof.Select

@[expose] public section

noncomputable section

namespace Cert.Prf

open Idealize.ShloMosaic

/-- Row offsets of a ring's sixteen samples, one line for each of the three heights. -/
def vert : Fin 3 → Fin 16 → ℕ :=
  ![![2, 2, 2, 2, 2, 3, 4, 5, 6, 6, 6, 6, 6, 3, 4, 5],
    ![1, 1, 1, 1, 1, 3, 4, 5, 7, 7, 7, 7, 7, 3, 4, 5],
    ![0, 0, 0, 0, 0, 2, 4, 6, 8, 8, 8, 8, 8, 2, 4, 6]]

/-- Column offsets of a ring's sixteen samples, one line for each of the three widths. -/
def horiz : Fin 3 → Fin 16 → ℕ :=
  ![![2, 3, 4, 5, 6, 6, 6, 6, 2, 3, 4, 5, 6, 2, 2, 2],
    ![1, 3, 4, 5, 7, 7, 7, 7, 1, 3, 4, 5, 7, 1, 1, 1],
    ![0, 2, 4, 6, 8, 8, 8, 8, 0, 2, 4, 6, 8, 0, 0, 0]]

/-- Row offset of sample `n` of ring `g`: the rings are listed height by height. -/
def rowOff (g : Fin 9) (n : Fin 16) : ℕ := vert ⟨g.val / 3, by omega⟩ n

/-- Column offset of sample `n` of ring `g`. -/
def colOff (g : Fin 9) (n : Fin 16) : ℕ := horiz ⟨g.val % 3, by omega⟩ n

/-- A padded image. -/
abbrev Img := Fin 64 → ℕ → ℕ → EReal

variable (X : Img) (y x : ℕ)

/-- The likeness of the pixel and the sample at offset `(a, b)`: the logistic function of their mean product over the
    channels. -/
def gate (a b : ℕ) : EReal :=
  Ideal.logistic ((∑ ch, X ch (y + 4) (x + 4) * X ch (y + a) (x + b)) * ((1 / 64 : ℝ) : EReal))

/-- The likeness of the pixel and ring `g`: the mean over the ring's samples. -/
def sim (g : Fin 9) : EReal := (∑ n, gate X y x (rowOff g n) (colOff g n)) * ((1 / 16 : ℝ) : EReal)

/-- The ring chosen at the pixel. -/
def ring : Fin 9 := chosen (sim X y x)

/-- The pixel less sample `n` of the chosen ring, at channel `ch`. -/
def patch (n : Fin 16) (ch : Fin 64) : EReal :=
  X ch (y + 4) (x + 4) - X ch (y + rowOff (ring X y x) n) (x + colOff (ring X y x) n)

end Cert.Prf

end
-- ==== Proof.Consts.lean ====
/-
  The numbers that the two programs' constant words stand for.
-/
module

public import Idealize.ShloMosaic.Lib.Pointwise

@[expose] public section

noncomputable section

namespace Cert.Prf

open Idealize.ShloMosaic

theorem ofBits_zero : Ideal.ofBits .f32 0x00000000#32 = 0 := by
  simp [Ideal.ofBits, Ideal.ieee]
theorem ofBits_64th : Ideal.ofBits .f32 0x3C800000#32 = ((1 / 64 : ℝ) : EReal) := by
  simp [Ideal.ofBits, Ideal.ieee, -EReal.coe_mul]; norm_num
theorem ofBits_16th : Ideal.ofBits .f32 0x3D800000#32 = ((1 / 16 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_one : Ideal.ofBits .f32 0x3F800000#32 = ((1 : ℕ) : EReal) := by
  simp [Ideal.ofBits, Ideal.ieee, -EReal.coe_mul]; norm_num
theorem ofBits_two : Ideal.ofBits .f32 0x40000000#32 = ((2 : ℕ) : EReal) := by
  simp [Ideal.ofBits, Ideal.ieee, -EReal.coe_mul]; norm_num; rfl
theorem ofBits_three : Ideal.ofBits .f32 0x40400000#32 = ((3 : ℕ) : EReal) := by
  simp [Ideal.ofBits, Ideal.ieee, -EReal.coe_mul]; norm_num; rfl
theorem ofBits_four : Ideal.ofBits .f32 0x40800000#32 = ((4 : ℕ) : EReal) := by
  simp [Ideal.ofBits, Ideal.ieee, -EReal.coe_mul]; norm_num; rfl
theorem ofBits_five : Ideal.ofBits .f32 0x40A00000#32 = ((5 : ℕ) : EReal) := by
  simp [Ideal.ofBits, Ideal.ieee, -EReal.coe_mul]; norm_num; rfl
theorem ofBits_six : Ideal.ofBits .f32 0x40C00000#32 = ((6 : ℕ) : EReal) := by
  simp [Ideal.ofBits, Ideal.ieee, -EReal.coe_mul]; norm_num; rfl
theorem ofBits_seven : Ideal.ofBits .f32 0x40E00000#32 = ((7 : ℕ) : EReal) := by
  simp [Ideal.ofBits, Ideal.ieee, -EReal.coe_mul]; norm_num; rfl
theorem ofBits_eight : Ideal.ofBits .f32 0x41000000#32 = ((8 : ℕ) : EReal) := by
  simp [Ideal.ofBits, Ideal.ieee, -EReal.coe_mul]; norm_num; rfl

end Cert.Prf

end
-- ==== Proof.Sims.lean ====
/-
  The nine likenesses on one tile: the body's sums of logistic terms are, at every pixel of the tile, the likenesses of the
  pixel and the nine rings.
-/
module

public import proofs.«01_k».proof.Proof.Window
public import proofs.«01_k».proof.Proof.Rule
public import proofs.«01_k».proof.Proof.Consts
public import Idealize.ShloMosaic.Lib.Tactic.RunNames

@[expose] public section

noncomputable section

namespace Cert.Prf

open Idealize.ShloMosaic Cert.KernelIdeal Cert.KernelIdeal.Gen

variable (c : Dev nD) (i : grid0.Coords) (arg2 : Memref sig .tc .vmem S1x64x136x136 .f32) (harg2 : arg2.IsWhole)
  (arg6 : Memref sig .tc .vmem S64x16x136 .f32) (x0 : Vec Ideal S1x64x136x136 .f32)

/-- A product of two extended reals, whichever name the type goes by. -/
theorem ideal_mul (a b : EReal) :
    @HMul.hMul (Ideal .f32) (Ideal .f32) (Ideal .f32) (@instHMul (Ideal .f32) EReal.instMul) a b = (a * b : EReal) := rfl

/-- A likeness, folded. -/
theorem gate_fold (X : Img) (y x a b : ℕ) :
    Ideal.logistic ((∑ ch, X ch (y + 4) (x + 4) * X ch (y + a) (x + b)) * ((1 / 64 : ℝ) : EReal)) = gate X y x a b := rfl

/-- The nine likenesses as the body holds them on its tile. -/
def simWords : Fin 9 → FVec Ideal S8x128 .f32 :=
  ![kernelRun0_A.sl.r_91 c i arg2 harg2 arg6 x0, kernelRun0_A.sl.r_92 c i arg2 harg2 arg6 x0,
    kernelRun0_A.sl.r_93 c i arg2 harg2 arg6 x0, kernelRun0_A.sl.r_94 c i arg2 harg2 arg6 x0,
    kernelRun0_A.sl.r_95 c i arg2 harg2 arg6 x0, kernelRun0_A.sl.r_96 c i arg2 harg2 arg6 x0,
    kernelRun0_A.sl.r_97 c i arg2 harg2 arg6 x0, kernelRun0_A.sl.r_98 c i arg2 harg2 arg6 x0,
    kernelRun0_A.sl.r_99 c i arg2 harg2 arg6 x0]

set_option maxHeartbeats 8000000 in
/-- At every pixel of the tile they are the likenesses of the pixel and the nine rings: each sum over the ring's samples
    runs over the same sixteen terms in another order. -/
theorem simWords_apply (h : Fin 8) (w : Fin 128) (g : Fin 9) :
    simWords c i arg2 harg2 arg6 x0 g (ix2 (n0 := 8) (n1 := 128) h w) = sim (img x0) (8 * (i 1).val + h) w g := by
  fin_cases g
  all_goals
    simp only [simWords, Fin.zero_eta, Fin.mk_one, Fin.reduceFinMk, Matrix.cons_val]
    sl_unfold_run_values
    unfold_payloads
    pointwise [ofBits_64th, ofBits_16th]
    simp only [ideal_mul, win_load, gate_fold]
    unfold sim
    generalize gate (img x0) (8 * (i 1).val + h) w = G
    simp only [Fin.sum_univ_succ, Fin.sum_univ_zero, rowOff, colOff]
    simp [vert, horiz]
    ac_rfl

end Cert.Prf

end
-- ==== Proof.Ranks.lean ====
/-
  The ranks on one tile: the body counts, for each ring, the rings that come before it in the stable ascending order of the
  nine likenesses.
-/
module

public import proofs.«01_k».proof.Proof.Sims

@[expose] public section

noncomputable section

namespace Cert.Prf

open Idealize.ShloMosaic Cert.KernelIdeal Cert.KernelIdeal.Gen

/-- A rank is the sum over the positions of one for each that comes before. -/
theorem rank_eq_sum {n : ℕ} (s : Fin n → EReal) (g : Fin n) :
    ((rank s g : ℕ) : EReal) = ∑ j, if lexBefore s j g = true then (1 : EReal) else 0 := by
  rw [Finset.sum_boole]
  rfl

/-- Coming before is being at most as large, for an earlier position, and less, for a later one. -/
theorem lexBefore_iff {n : ℕ} (s : Fin n → EReal) (j g : Fin n) :
    lexBefore s j g = true ↔ if j < g then s j ≤ s g else s j < s g := by
  unfold lexBefore
  split
  · rename_i h
    simp only [h, and_true, decide_eq_true_eq, le_iff_lt_or_eq]
  · rename_i h
    simp only [h, and_false, or_false, decide_eq_true_eq]

/-- A rank among nine, written out. -/
theorem rank_nine (s : Fin 9 → EReal) (g : Fin 9) :
    ((rank s g : ℕ) : EReal)
      = (if lexBefore s 0 g = true then (1 : EReal) else 0) + (if lexBefore s 1 g = true then 1 else 0)
        + (if lexBefore s 2 g = true then 1 else 0) + (if lexBefore s 3 g = true then 1 else 0)
        + (if lexBefore s 4 g = true then 1 else 0) + (if lexBefore s 5 g = true then 1 else 0)
        + (if lexBefore s 6 g = true then 1 else 0) + (if lexBefore s 7 g = true then 1 else 0)
        + (if lexBefore s 8 g = true then 1 else 0) := by
  rw [rank_eq_sum, Fin.sum_univ_castSucc, Fin.sum_univ_eight]
  rfl

/-- A truth value carried to a number: one or zero. -/
theorem sitofp_ofBool (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p
  · simp [h]
  · simp [h]

variable (c : Dev nD) (i : grid0.Coords) (arg2 : Memref sig .tc .vmem S1x64x136x136 .f32) (harg2 : arg2.IsWhole)
  (arg6 : Memref sig .tc .vmem S64x16x136 .f32) (x0 : Vec Ideal S1x64x136x136 .f32)

/-- The nine ranks as the body holds them on its tile. -/
def rankWords : Fin 9 → FVec Ideal S8x128 .f32 :=
  ![kernelRun0_A.sl.r_100 c i arg2 harg2 arg6 x0, kernelRun0_A.sl.r_102 c i arg2 harg2 arg6 x0,
    kernelRun0_A.sl.r_103 c i arg2 harg2 arg6 x0, kernelRun0_A.sl.r_104 c i arg2 harg2 arg6 x0,
    kernelRun0_A.sl.r_107 c i arg2 harg2 arg6 x0, kernelRun0_A.sl.r_108 c i arg2 harg2 arg6 x0,
    kernelRun0_A.sl.r_111 c i arg2 harg2 arg6 x0, kernelRun0_A.sl.r_112 c i arg2 harg2 arg6 x0,
    kernelRun0_A.sl.r_115 c i arg2 harg2 arg6 x0]

/-- The nine likenesses, each by its own name. -/
theorem simWords_names :
    kernelRun0_A.sl.r_91 c i arg2 harg2 arg6 x0 = simWords c i arg2 harg2 arg6 x0 0 ∧
      kernelRun0_A.sl.r_92 c i arg2 harg2 arg6 x0 = simWords c i arg2 harg2 arg6 x0 1 ∧
      kernelRun0_A.sl.r_93 c i arg2 harg2 arg6 x0 = simWords c i arg2 harg2 arg6 x0 2 ∧
      kernelRun0_A.sl.r_94 c i arg2 harg2 arg6 x0 = simWords c i arg2 harg2 arg6 x0 3 ∧
      kernelRun0_A.sl.r_95 c i arg2 harg2 arg6 x0 = simWords c i arg2 harg2 arg6 x0 4 ∧
      kernelRun0_A.sl.r_96 c i arg2 harg2 arg6 x0 = simWords c i arg2 harg2 arg6 x0 5 ∧
      kernelRun0_A.sl.r_97 c i arg2 harg2 arg6 x0 = simWords c i arg2 harg2 arg6 x0 6 ∧
      kernelRun0_A.sl.r_98 c i arg2 harg2 arg6 x0 = simWords c i arg2 harg2 arg6 x0 7 ∧
      kernelRun0_A.sl.r_99 c i arg2 harg2 arg6 x0 = simWords c i arg2 harg2 arg6 x0 8 :=
  ⟨rfl, rfl, rfl, rfl, rfl, rfl, rfl, rfl, rfl⟩

/-- The nine ranks, each by its own name. -/
theorem rankWords_names :
    kernelRun0_A.sl.r_100 c i arg2 harg2 arg6 x0 = rankWords c i arg2 harg2 arg6 x0 0 ∧
      kernelRun0_A.sl.r_102 c i arg2 harg2 arg6 x0 = rankWords c i arg2 harg2 arg6 x0 1 ∧
      kernelRun0_A.sl.r_103 c i arg2 harg2 arg6 x0 = rankWords c i arg2 harg2 arg6 x0 2 ∧
      kernelRun0_A.sl.r_104 c i arg2 harg2 arg6 x0 = rankWords c i arg2 harg2 arg6 x0 3 ∧
      kernelRun0_A.sl.r_107 c i arg2 harg2 arg6 x0 = rankWords c i arg2 harg2 arg6 x0 4 ∧
      kernelRun0_A.sl.r_108 c i arg2 harg2 arg6 x0 = rankWords c i arg2 harg2 arg6 x0 5 ∧
      kernelRun0_A.sl.r_111 c i arg2 harg2 arg6 x0 = rankWords c i arg2 harg2 arg6 x0 6 ∧
      kernelRun0_A.sl.r_112 c i arg2 harg2 arg6 x0 = rankWords c i arg2 harg2 arg6 x0 7 ∧
      kernelRun0_A.sl.r_115 c i arg2 harg2 arg6 x0 = rankWords c i arg2 harg2 arg6 x0 8 :=
  ⟨rfl, rfl, rfl, rfl, rfl, rfl, rfl, rfl, rfl⟩

set_option maxHeartbeats 8000000 in
/-- At every pixel of the tile they are the ranks of the nine likenesses. -/
theorem rankWords_apply (h : Fin 8) (w : Fin 128) (g : Fin 9) :
    rankWords c i arg2 harg2 arg6 x0 g (ix2 (n0 := 8) (n1 := 128) h w)
      = ((rank (fun r => simWords c i arg2 harg2 arg6 x0 r (ix2 (n0 := 8) (n1 := 128) h w)) g : ℕ) : EReal) := by
  have f94 : k0_pay151 (kernelRun0_A.sl.r_81 c i arg2 harg2 arg6 x0) k0_pay150 = simWords c i arg2 harg2 arg6 x0 3 := rfl
  have f95 : k0_pay152 (kernelRun0_A.sl.r_82 c i arg2 harg2 arg6 x0) = simWords c i arg2 harg2 arg6 x0 4 := rfl
  have f96 : k0_pay153 (kernelRun0_A.sl.r_83 c i arg2 harg2 arg6 x0) = simWords c i arg2 harg2 arg6 x0 5 := rfl
  have f97 : k0_pay154 (kernelRun0_A.sl.r_88 c i arg2 harg2 arg6 x0) = simWords c i arg2 harg2 arg6 x0 6 := rfl
  have f98 : k0_pay155 (kernelRun0_A.sl.r_89 c i arg2 harg2 arg6 x0) = simWords c i arg2 harg2 arg6 x0 7 := rfl
  have f99 : k0_pay156 (kernelRun0_A.sl.r_90 c i arg2 harg2 arg6 x0) = simWords c i arg2 harg2 arg6 x0 8 := rfl
  obtain ⟨e0, e1, e2, e3, e4, e5, e6, e7, e8⟩ := simWords_names c i arg2 harg2 arg6 x0
  fin_cases g
  all_goals simp only [rankWords, Fin.zero_eta, Fin.mk_one, Fin.reduceFinMk, Matrix.cons_val]
  on_goal 1 => unfold kernelRun0_A.sl.r_100 k0_pay157
  on_goal 2 => unfold kernelRun0_A.sl.r_102 kernelRun0_A.sl.r_101
  on_goal 3 => unfold kernelRun0_A.sl.r_103
  on_goal 4 => unfold kernelRun0_A.sl.r_104
  on_goal 5 => unfold kernelRun0_A.sl.r_107 kernelRun0_A.sl.r_105 kernelRun0_A.sl.r_106
  on_goal 6 => unfold kernelRun0_A.sl.r_108
  on_goal 7 => unfold kernelRun0_A.sl.r_111 kernelRun0_A.sl.r_109 kernelRun0_A.sl.r_110
  on_goal 8 => unfold kernelRun0_A.sl.r_112
  on_goal 9 => unfold kernelRun0_A.sl.r_115 kernelRun0_A.sl.r_113 kernelRun0_A.sl.r_114
  all_goals
    simp only [f94, f95, f96, f97, f98, f99, e0, e1, e2, e3, e4, e5, e6, e7, e8]
    generalize simWords c i arg2 harg2 arg6 x0 = S
    unfold_payloads
    pointwise [ofBits_zero, sitofp_ofBool]
    simp [rank_nine, lexBefore_iff]

end Cert.Prf

end
-- ==== Proof.Sorted.lean ====
/-
  The likenesses in ascending order on one tile: the body selects, for each place, the likeness whose rank is that place.
-/
module

public import proofs.«01_k».proof.Proof.Ranks

@[expose] public section

noncomputable section

namespace Cert.Prf

open Idealize.ShloMosaic Cert.KernelIdeal Cert.KernelIdeal.Gen

/-- Ring `g` has rank `r` just when it is the one at place `r`; the two numbers compared as extended reals. -/
theorem rank_cast_eq {n : ℕ} (s : Fin n → EReal) (g r : Fin n) :
    ((rank s g : ℕ) : EReal) = ((r.val : ℕ) : EReal) ↔ g = place s r := by
  rw [← rank_eq_iff, Nat.cast_inj]

variable (c : Dev nD) (i : grid0.Coords) (arg2 : Memref sig .tc .vmem S1x64x136x136 .f32) (harg2 : arg2.IsWhole)
  (arg6 : Memref sig .tc .vmem S64x16x136 .f32) (x0 : Vec Ideal S1x64x136x136 .f32)

/-- The eight least likenesses in ascending order, as the body holds them on its tile. -/
def sortedWords : Fin 8 → FVec Ideal S8x128 .f32 :=
  ![kernelRun0_A.sl.r_116 c i arg2 harg2 arg6 x0, kernelRun0_A.sl.r_117 c i arg2 harg2 arg6 x0,
    kernelRun0_A.sl.r_119 c i arg2 harg2 arg6 x0, kernelRun0_A.sl.r_120 c i arg2 harg2 arg6 x0,
    kernelRun0_A.sl.r_122 c i arg2 harg2 arg6 x0, kernelRun0_A.sl.r_124 c i arg2 harg2 arg6 x0,
    kernelRun0_A.sl.r_125 c i arg2 harg2 arg6 x0, kernelRun0_A.sl.r_127 c i arg2 harg2 arg6 x0]

/-- The eight, each by its own name. -/
theorem sortedWords_names :
    kernelRun0_A.sl.r_116 c i arg2 harg2 arg6 x0 = sortedWords c i arg2 harg2 arg6 x0 0 ∧
      kernelRun0_A.sl.r_117 c i arg2 harg2 arg6 x0 = sortedWords c i arg2 harg2 arg6 x0 1 ∧
      kernelRun0_A.sl.r_119 c i arg2 harg2 arg6 x0 = sortedWords c i arg2 harg2 arg6 x0 2 ∧
      kernelRun0_A.sl.r_120 c i arg2 harg2 arg6 x0 = sortedWords c i arg2 harg2 arg6 x0 3 ∧
      kernelRun0_A.sl.r_122 c i arg2 harg2 arg6 x0 = sortedWords c i arg2 harg2 arg6 x0 4 ∧
      kernelRun0_A.sl.r_124 c i arg2 harg2 arg6 x0 = sortedWords c i arg2 harg2 arg6 x0 5 ∧
      kernelRun0_A.sl.r_125 c i arg2 harg2 arg6 x0 = sortedWords c i arg2 harg2 arg6 x0 6 ∧
      kernelRun0_A.sl.r_127 c i arg2 harg2 arg6 x0 = sortedWords c i arg2 harg2 arg6 x0 7 :=
  ⟨rfl, rfl, rfl, rfl, rfl, rfl, rfl, rfl⟩

/-- At every pixel of the tile, place `r` holds the likeness that comes `r`-th in ascending order. -/
theorem sortedWords_apply (h : Fin 8) (w : Fin 128) (r : Fin 8) :
    sortedWords c i arg2 harg2 arg6 x0 r (ix2 (n0 := 8) (n1 := 128) h w)
      = simWords c i arg2 harg2 arg6 x0
          (place (fun r => simWords c i arg2 harg2 arg6 x0 r (ix2 (n0 := 8) (n1 := 128) h w)) r.castSucc)
          (ix2 (n0 := 8) (n1 := 128) h w) := by
  obtain ⟨e0, e1, e2, e3, e4, e5, e6, e7, e8⟩ := simWords_names c i arg2 harg2 arg6 x0
  obtain ⟨f0, f1, f2, f3, f4, f5, f6, f7, f8⟩ := rankWords_names c i arg2 harg2 arg6 x0
  have f' : k0_pay173 (kernelRun0_A.sl.r_94 c i arg2 harg2 arg6 x0) (kernelRun0_A.sl.r_95 c i arg2 harg2 arg6 x0)
      (kernelRun0_A.sl.r_96 c i arg2 harg2 arg6 x0) (kernelRun0_A.sl.r_97 c i arg2 harg2 arg6 x0)
      (kernelRun0_A.sl.r_98 c i arg2 harg2 arg6 x0) (kernelRun0_A.sl.r_99 c i arg2 harg2 arg6 x0)
      (kernelRun0_A.sl.r_113 c i arg2 harg2 arg6 x0) (kernelRun0_A.sl.r_114 c i arg2 harg2 arg6 x0)
      = rankWords c i arg2 harg2 arg6 x0 8 := rfl
  have hr := rankWords_apply c i arg2 harg2 arg6 x0 h w
  have k := fun g => rank_cast_eq (fun r => simWords c i arg2 harg2 arg6 x0 r (ix2 (n0 := 8) (n1 := 128) h w)) g r.castSucc
  fin_cases r
  all_goals simp only [sortedWords, Fin.zero_eta, Fin.mk_one, Fin.reduceFinMk, Matrix.cons_val]
  on_goal 1 =>
    unfold kernelRun0_A.sl.r_116 k0_pay174
    rw [f']
  on_goal 2 => unfold kernelRun0_A.sl.r_117
  on_goal 3 => unfold kernelRun0_A.sl.r_119 kernelRun0_A.sl.r_118
  on_goal 4 => unfold kernelRun0_A.sl.r_120
  on_goal 5 => unfold kernelRun0_A.sl.r_122 kernelRun0_A.sl.r_121
  on_goal 6 => unfold kernelRun0_A.sl.r_124 kernelRun0_A.sl.r_123
  on_goal 7 => unfold kernelRun0_A.sl.r_125
  on_goal 8 => unfold kernelRun0_A.sl.r_127 kernelRun0_A.sl.r_126
  all_goals
    simp only [e0, e1, e2, e3, e4, e5, e6, e7, e8, f0, f1, f2, f3, f4, f5, f6, f7, f8]
    clear e0 e1 e2 e3 e4 e5 e6 e7 e8 f0 f1 f2 f3 f4 f5 f6 f7 f8
    generalize rankWords c i arg2 harg2 arg6 x0 = R at *
    generalize simWords c i arg2 harg2 arg6 x0 = S at *
    simp only [Fin.zero_eta, Fin.mk_one, Fin.reduceFinMk, Fin.reduceCastSucc, Fin.castSucc_zero, Fin.castSucc_one,
      Fin.coe_ofNat_eq_mod, Nat.reduceMod, Nat.cast_zero, Nat.cast_one] at k ⊢
    unfold_payloads
    pointwise [hr, k, ofBits_zero, ofBits_two, ofBits_three, ofBits_four, ofBits_five, ofBits_six, ofBits_seven]
    generalize place (fun r => S r (ix2 h w)) _ = p
    fin_cases p <;> simp

end Cert.Prf

end
-- ==== Proof.MaxStep.lean ====
/-
  The first greatest of eight numbers, as a chain of comparisons against their maximum finds it.
-/
module

public import proofs.«01_k».proof.Proof.Select

@[expose] public section

noncomputable section

namespace Cert.Prf

/-- The maximum of eight numbers, taken from left to right. -/
def maxEight (d : Fin 8 → EReal) : EReal :=
  max (max (max (max (max (max (max (d 0) (d 1)) (d 2)) (d 3)) (d 4)) (d 5)) (d 6)) (d 7)

/-- The greatest of eight numbers is the one at the first greatest place. -/
theorem maxEight_eq (d : Fin 8 → EReal) : maxEight d = d (firstMax d) := by
  have h := (firstMax_spec d).1
  apply le_antisymm
  · simp only [maxEight, max_le_iff, h, and_self]
  · generalize firstMax d = q
    fin_cases q <;> simp [maxEight]

/-- Comparing the eight numbers with their maximum from the first on finds the first greatest. -/
theorem chain_eq (d : Fin 8 → EReal) :
    (if d 0 = maxEight d then (((0 : Fin 8).val : ℕ) : EReal) else if d 1 = maxEight d then (((1 : Fin 8).val : ℕ) : EReal)
      else if d 2 = maxEight d then (((2 : Fin 8).val : ℕ) : EReal) else if d 3 = maxEight d then (((3 : Fin 8).val : ℕ) : EReal)
      else if d 4 = maxEight d then (((4 : Fin 8).val : ℕ) : EReal) else if d 5 = maxEight d then (((5 : Fin 8).val : ℕ) : EReal)
      else if d 6 = maxEight d then (((6 : Fin 8).val : ℕ) : EReal) else if d 7 = maxEight d then (((7 : Fin 8).val : ℕ) : EReal)
      else 0)
      = (((firstMax d).val : ℕ) : EReal) := by
  rw [maxEight_eq]
  have h := (firstMax_spec d).2
  generalize firstMax d = q at *
  have k : ∀ r, r < q → ¬ d r = d q := fun r hr => (h r hr).ne
  fin_cases q <;> simp at k ⊢ <;> simp [k]

end Cert.Prf

end
-- ==== Proof.Masks.lean ====
/-
  The masks on one tile: the body takes the differences of neighbouring likenesses, finds the number of the first greatest
  one, and marks the ring whose rank is that number.
-/
module

public import proofs.«01_k».proof.Proof.Sorted
public import proofs.«01_k».proof.Proof.MaxStep

@[expose] public section

noncomputable section

namespace Cert.Prf

open Idealize.ShloMosaic Cert.KernelIdeal Cert.KernelIdeal.Gen

variable (c : Dev nD) (i : grid0.Coords) (arg2 : Memref sig .tc .vmem S1x64x136x136 .f32) (harg2 : arg2.IsWhole)
  (arg6 : Memref sig .tc .vmem S64x16x136 .f32) (x0 : Vec Ideal S1x64x136x136 .f32)

/-- The last chain of selections, which the body finishes where it takes the differences, gives the greatest likeness. -/
theorem lastWord_apply (h : Fin 8) (w : Fin 128) :
    (if rankWords c i arg2 harg2 arg6 x0 8 (ix2 (n0 := 8) (n1 := 128) h w) = ((8 : ℕ) : EReal)
        then simWords c i arg2 harg2 arg6 x0 8 (ix2 (n0 := 8) (n1 := 128) h w)
        else kernelRun0_A.sl.r_128 c i arg2 harg2 arg6 x0 (ix2 (n0 := 8) (n1 := 128) h w))
      = simWords c i arg2 harg2 arg6 x0
          (place (fun r => simWords c i arg2 harg2 arg6 x0 r (ix2 (n0 := 8) (n1 := 128) h w)) 8)
          (ix2 (n0 := 8) (n1 := 128) h w) := by
  obtain ⟨e0, e1, e2, e3, e4, e5, e6, e7, e8⟩ := simWords_names c i arg2 harg2 arg6 x0
  obtain ⟨f0, f1, f2, f3, f4, f5, f6, f7, f8⟩ := rankWords_names c i arg2 harg2 arg6 x0
  have hr := rankWords_apply c i arg2 harg2 arg6 x0 h w
  unfold kernelRun0_A.sl.r_128
  simp only [e0, e1, e2, e3, e4, e5, e6, e7, f0, f1, f2, f3, f4, f5, f6, f7]
  clear e0 e1 e2 e3 e4 e5 e6 e7 e8 f0 f1 f2 f3 f4 f5 f6 f7 f8
  generalize rankWords c i arg2 harg2 arg6 x0 = R at *
  generalize simWords c i arg2 harg2 arg6 x0 = S at *
  have k : ∀ g, ((rank (fun r => S r (ix2 h w)) g : ℕ) : EReal) = ((8 : ℕ) : EReal) ↔ g = place (fun r => S r (ix2 h w)) 8 :=
    fun g => rank_cast_eq (fun r => S r (ix2 h w)) g 8
  unfold_payloads
  pointwise [hr, ofBits_eight, k]
  generalize place (fun r => S r (ix2 h w)) 8 = p
  fin_cases p <;> simp

/-- The number of the first greatest difference, as the body holds it on its tile. -/
theorem stepWord_apply (h : Fin 8) (w : Fin 128) :
    kernelRun0_A.sl.r_129 c i arg2 harg2 arg6 x0 (ix2 (n0 := 8) (n1 := 128) h w)
      = (((firstMax (steps fun r => simWords c i arg2 harg2 arg6 x0 r (ix2 (n0 := 8) (n1 := 128) h w))).val : ℕ) : EReal) := by
  obtain ⟨-, -, -, -, -, -, -, -, e8⟩ := simWords_names c i arg2 harg2 arg6 x0
  obtain ⟨-, -, -, -, -, -, -, -, f8⟩ := rankWords_names c i arg2 harg2 arg6 x0
  obtain ⟨t0, t1, t2, t3, t4, t5, t6, t7⟩ := sortedWords_names c i arg2 harg2 arg6 x0
  have hl := lastWord_apply c i arg2 harg2 arg6 x0 h w
  have ht := sortedWords_apply c i arg2 harg2 arg6 x0 h w
  rw [← chain_eq]
  unfold kernelRun0_A.sl.r_129
  simp only [e8, f8, t0, t1, t2, t3, t4, t5, t6, t7]
  clear e8 f8 t0 t1 t2 t3 t4 t5 t6 t7
  generalize rankWords c i arg2 harg2 arg6 x0 = R at *
  generalize sortedWords c i arg2 harg2 arg6 x0 = T at *
  generalize simWords c i arg2 harg2 arg6 x0 = S at *
  generalize kernelRun0_A.sl.r_128 c i arg2 harg2 arg6 x0 = L at *
  unfold_payloads
  pointwise [hl, ht, ofBits_zero, ofBits_two, ofBits_three, ofBits_four, ofBits_five, ofBits_six, ofBits_seven, ofBits_eight]
  simp [steps, maxEight]

/-- The nine masks as the body holds them on its tile. -/
def maskWords : Fin 9 → FVec Ideal S1x8x128 .f32 :=
  ![kernelRun0_A.sl.r_130 c i arg2 harg2 arg6 x0, kernelRun0_A.sl.r_132 c i arg2 harg2 arg6 x0,
    kernelRun0_A.sl.r_133 c i arg2 harg2 arg6 x0, kernelRun0_A.sl.r_134 c i arg2 harg2 arg6 x0,
    kernelRun0_A.sl.r_135 c i arg2 harg2 arg6 x0, kernelRun0_A.sl.r_136 c i arg2 harg2 arg6 x0,
    kernelRun0_A.sl.r_137 c i arg2 harg2 arg6 x0, kernelRun0_A.sl.r_138 c i arg2 harg2 arg6 x0,
    kernelRun0_A.sl.r_139 c i arg2 harg2 arg6 x0]

/-- The nine masks, each by its own name. -/
theorem maskWords_names :
    kernelRun0_A.sl.r_130 c i arg2 harg2 arg6 x0 = maskWords c i arg2 harg2 arg6 x0 0 ∧
      kernelRun0_A.sl.r_132 c i arg2 harg2 arg6 x0 = maskWords c i arg2 harg2 arg6 x0 1 ∧
      kernelRun0_A.sl.r_133 c i arg2 harg2 arg6 x0 = maskWords c i arg2 harg2 arg6 x0 2 ∧
      kernelRun0_A.sl.r_134 c i arg2 harg2 arg6 x0 = maskWords c i arg2 harg2 arg6 x0 3 ∧
      kernelRun0_A.sl.r_135 c i arg2 harg2 arg6 x0 = maskWords c i arg2 harg2 arg6 x0 4 ∧
      kernelRun0_A.sl.r_136 c i arg2 harg2 arg6 x0 = maskWords c i arg2 harg2 arg6 x0 5 ∧
      kernelRun0_A.sl.r_137 c i arg2 harg2 arg6 x0 = maskWords c i arg2 harg2 arg6 x0 6 ∧
      kernelRun0_A.sl.r_138 c i arg2 harg2 arg6 x0 = maskWords c i arg2 harg2 arg6 x0 7 ∧
      kernelRun0_A.sl.r_139 c i arg2 harg2 arg6 x0 = maskWords c i arg2 harg2 arg6 x0 8 :=
  ⟨rfl, rfl, rfl, rfl, rfl, rfl, rfl, rfl, rfl⟩

/-- At every pixel of the tile the mask of the chosen ring is one and the others are zero. -/
theorem maskWords_apply (h : Fin 8) (w : Fin 128) (g : Fin 9) :
    maskWords c i arg2 harg2 arg6 x0 g (ix3 (n0 := 1) (n1 := 8) (n2 := 128) 0 h w)
      = if g = ring (img x0) (8 * (i 1).val + h) w then (1 : EReal) else 0 := by
  obtain ⟨f0, f1, f2, f3, f4, f5, f6, f7, f8⟩ := rankWords_names c i arg2 harg2 arg6 x0
  have f' : k0_pay189 (kernelRun0_A.sl.r_99 c i arg2 harg2 arg6 x0) (rankWords c i arg2 harg2 arg6 x0 8)
      (kernelRun0_A.sl.r_116 c i arg2 harg2 arg6 x0) (kernelRun0_A.sl.r_117 c i arg2 harg2 arg6 x0)
      (kernelRun0_A.sl.r_119 c i arg2 harg2 arg6 x0) (kernelRun0_A.sl.r_120 c i arg2 harg2 arg6 x0)
      (kernelRun0_A.sl.r_122 c i arg2 harg2 arg6 x0) (kernelRun0_A.sl.r_124 c i arg2 harg2 arg6 x0)
      (kernelRun0_A.sl.r_125 c i arg2 harg2 arg6 x0) (kernelRun0_A.sl.r_127 c i arg2 harg2 arg6 x0)
      (kernelRun0_A.sl.r_128 c i arg2 harg2 arg6 x0) = kernelRun0_A.sl.r_129 c i arg2 harg2 arg6 x0 := rfl
  have hm := stepWord_apply c i arg2 harg2 arg6 x0 h w
  have hr := rankWords_apply c i arg2 harg2 arg6 x0 h w
  simp only [simWords_apply] at hm hr
  have k : ∀ g, ((rank (sim (img x0) (8 * (i 1).val + h) w) g : ℕ) : EReal)
      = (((firstMax (steps (sim (img x0) (8 * (i 1).val + h) w))).val : ℕ) : EReal)
        ↔ g = ring (img x0) (8 * (i 1).val + h) w :=
    fun g => rank_cast_eq (sim (img x0) (8 * (i 1).val + h) w) g (firstMax (steps (sim (img x0) (8 * (i 1).val + h) w))).castSucc
  fin_cases g
  all_goals simp only [maskWords, Fin.zero_eta, Fin.mk_one, Fin.reduceFinMk, Matrix.cons_val]
  on_goal 1 => unfold kernelRun0_A.sl.r_130 k0_pay190
  on_goal 2 => unfold kernelRun0_A.sl.r_132 kernelRun0_A.sl.r_131 k0_pay191
  on_goal 3 => unfold kernelRun0_A.sl.r_133
  on_goal 4 => unfold kernelRun0_A.sl.r_134
  on_goal 5 => unfold kernelRun0_A.sl.r_135
  on_goal 6 => unfold kernelRun0_A.sl.r_136
  on_goal 7 => unfold kernelRun0_A.sl.r_137
  on_goal 8 => unfold kernelRun0_A.sl.r_138
  on_goal 9 => unfold kernelRun0_A.sl.r_139
  all_goals
    simp only [f0, f1, f2, f3, f4, f5, f6, f7, f8, f']
    unfold_payloads
    pointwise [hr, hm, sitofp_ofBool, Nat.cast_inj, k]

end Cert.Prf

end
-- ==== Proof.Patch.lean ====
/-
  What the body stores for the matrix product: for each sample, the pixel less the sample of the chosen ring. The nine masks
  are zero but one, so each stored value is the pixel less a single load.
-/
module

public import proofs.«01_k».proof.Proof.Masks

@[expose] public section

noncomputable section

namespace Cert.Prf

open Idealize.ShloMosaic Cert.KernelIdeal Cert.KernelIdeal.Gen

variable (c : Dev nD) (i : grid0.Coords) (arg2 : Memref sig .tc .vmem S1x64x136x136 .f32) (harg2 : arg2.IsWhole)
  (arg6 : Memref sig .tc .vmem S64x16x136 .f32) (x0 : Vec Ideal S1x64x136x136 .f32)

/-- The sixteen blocks stored, one for each sample. -/
def patchWords : Fin 16 → FVec Ideal S64x8x128 .f32 :=
  ![k0_pay201 (kernelRun0_A.sl.r_130 c i arg2 harg2 arg6 x0) (kernelRun0_A.sl.r_132 c i arg2 harg2 arg6 x0)
      (kernelRun0_A.sl.r_133 c i arg2 harg2 arg6 x0) (kernelRun0_A.sl.r_134 c i arg2 harg2 arg6 x0)
      (kernelRun0_A.sl.r_135 c i arg2 harg2 arg6 x0) (kernelRun0_A.sl.r_140 c i arg2 harg2 arg6 x0)
      (kernelRun0_A.sl.v81 c i arg2 harg2 arg6 x0) (kernelRun0_A.sl.v87 c i arg2 harg2 arg6 x0)
      (kernelRun0_A.sl.v141 c i arg2 harg2 arg6 x0) (kernelRun0_A.sl.v148 c i arg2 harg2 arg6 x0)
      (kernelRun0_A.sl.v155 c i arg2 harg2 arg6 x0),
    k0_pay204 (kernelRun0_A.sl.r_130 c i arg2 harg2 arg6 x0) (kernelRun0_A.sl.r_132 c i arg2 harg2 arg6 x0)
      (kernelRun0_A.sl.r_133 c i arg2 harg2 arg6 x0) (kernelRun0_A.sl.r_134 c i arg2 harg2 arg6 x0)
      (kernelRun0_A.sl.r_135 c i arg2 harg2 arg6 x0) (kernelRun0_A.sl.r_141 c i arg2 harg2 arg6 x0)
      (kernelRun0_A.sl.r_142 c i arg2 harg2 arg6 x0) (kernelRun0_A.sl.v94 c i arg2 harg2 arg6 x0)
      (kernelRun0_A.sl.v155 c i arg2 harg2 arg6 x0) (kernelRun0_A.sl.v163 c i arg2 harg2 arg6 x0),
    k0_pay206 (kernelRun0_A.sl.r_143 c i arg2 harg2 arg6 x0),
    k0_pay207 (kernelRun0_A.sl.v8 c i arg2 harg2 arg6 x0) (kernelRun0_A.sl.r_130 c i arg2 harg2 arg6 x0)
      (kernelRun0_A.sl.r_132 c i arg2 harg2 arg6 x0) (kernelRun0_A.sl.r_133 c i arg2 harg2 arg6 x0)
      (kernelRun0_A.sl.r_134 c i arg2 harg2 arg6 x0) (kernelRun0_A.sl.r_135 c i arg2 harg2 arg6 x0)
      (kernelRun0_A.sl.r_136 c i arg2 harg2 arg6 x0) (kernelRun0_A.sl.r_137 c i arg2 harg2 arg6 x0)
      (kernelRun0_A.sl.r_138 c i arg2 harg2 arg6 x0) (kernelRun0_A.sl.r_139 c i arg2 harg2 arg6 x0)
      (kernelRun0_A.sl.v45 c i arg2 harg2 arg6 x0) (kernelRun0_A.sl.v53 c i arg2 harg2 arg6 x0)
      (kernelRun0_A.sl.v111 c i arg2 harg2 arg6 x0) (kernelRun0_A.sl.v119 c i arg2 harg2 arg6 x0)
      (kernelRun0_A.sl.v180 c i arg2 harg2 arg6 x0) (kernelRun0_A.sl.v188 c i arg2 harg2 arg6 x0),
    k0_pay209 (kernelRun0_A.sl.r_144 c i arg2 harg2 arg6 x0),
    k0_pay210 (kernelRun0_A.sl.v8 c i arg2 harg2 arg6 x0) (kernelRun0_A.sl.r_130 c i arg2 harg2 arg6 x0)
      (kernelRun0_A.sl.r_132 c i arg2 harg2 arg6 x0) (kernelRun0_A.sl.r_133 c i arg2 harg2 arg6 x0)
      (kernelRun0_A.sl.r_134 c i arg2 harg2 arg6 x0) (kernelRun0_A.sl.r_135 c i arg2 harg2 arg6 x0)
      (kernelRun0_A.sl.r_136 c i arg2 harg2 arg6 x0) (kernelRun0_A.sl.r_137 c i arg2 harg2 arg6 x0)
      (kernelRun0_A.sl.r_138 c i arg2 harg2 arg6 x0) (kernelRun0_A.sl.r_139 c i arg2 harg2 arg6 x0)
      (kernelRun0_A.sl.v188 c i arg2 harg2 arg6 x0) (kernelRun0_A.sl.v197 c i arg2 harg2 arg6 x0)
      (kernelRun0_A.sl.v205 c i arg2 harg2 arg6 x0) (kernelRun0_A.sl.v237 c i arg2 harg2 arg6 x0)
      (kernelRun0_A.sl.v245 c i arg2 harg2 arg6 x0) (kernelRun0_A.sl.v253 c i arg2 harg2 arg6 x0),
    k0_pay212 (kernelRun0_A.sl.v8 c i arg2 harg2 arg6 x0) (kernelRun0_A.sl.r_132 c i arg2 harg2 arg6 x0)
      (kernelRun0_A.sl.r_133 c i arg2 harg2 arg6 x0) (kernelRun0_A.sl.r_135 c i arg2 harg2 arg6 x0)
      (kernelRun0_A.sl.r_136 c i arg2 harg2 arg6 x0) (kernelRun0_A.sl.r_137 c i arg2 harg2 arg6 x0)
      (kernelRun0_A.sl.r_138 c i arg2 harg2 arg6 x0) (kernelRun0_A.sl.r_139 c i arg2 harg2 arg6 x0)
      (kernelRun0_A.sl.r_145 c i arg2 harg2 arg6 x0) (kernelRun0_A.sl.v288 c i arg2 harg2 arg6 x0)
      (kernelRun0_A.sl.v297 c i arg2 harg2 arg6 x0) (kernelRun0_A.sl.v306 c i arg2 harg2 arg6 x0),
    k0_pay214 (kernelRun0_A.sl.r_137 c i arg2 harg2 arg6 x0) (kernelRun0_A.sl.r_138 c i arg2 harg2 arg6 x0)
      (kernelRun0_A.sl.r_139 c i arg2 harg2 arg6 x0) (kernelRun0_A.sl.r_146 c i arg2 harg2 arg6 x0)
      (kernelRun0_A.sl.v413 c i arg2 harg2 arg6 x0) (kernelRun0_A.sl.v422 c i arg2 harg2 arg6 x0)
      (kernelRun0_A.sl.v430 c i arg2 harg2 arg6 x0),
    k0_pay216 (kernelRun0_A.sl.r_134 c i arg2 harg2 arg6 x0) (kernelRun0_A.sl.r_137 c i arg2 harg2 arg6 x0)
      (kernelRun0_A.sl.r_138 c i arg2 harg2 arg6 x0) (kernelRun0_A.sl.r_139 c i arg2 harg2 arg6 x0)
      (kernelRun0_A.sl.r_147 c i arg2 harg2 arg6 x0) (kernelRun0_A.sl.v452 c i arg2 harg2 arg6 x0)
      (kernelRun0_A.sl.v507 c i arg2 harg2 arg6 x0) (kernelRun0_A.sl.v514 c i arg2 harg2 arg6 x0)
      (kernelRun0_A.sl.v521 c i arg2 harg2 arg6 x0),
    k0_pay219 (kernelRun0_A.sl.r_137 c i arg2 harg2 arg6 x0) (kernelRun0_A.sl.r_138 c i arg2 harg2 arg6 x0)
      (kernelRun0_A.sl.r_139 c i arg2 harg2 arg6 x0) (kernelRun0_A.sl.r_148 c i arg2 harg2 arg6 x0)
      (kernelRun0_A.sl.r_149 c i arg2 harg2 arg6 x0) (kernelRun0_A.sl.v460 c i arg2 harg2 arg6 x0)
      (kernelRun0_A.sl.v521 c i arg2 harg2 arg6 x0) (kernelRun0_A.sl.v529 c i arg2 harg2 arg6 x0),
    kernelRun0_A.sl.r_150 c i arg2 harg2 arg6 x0,
    k0_pay221 (kernelRun0_A.sl.v8 c i arg2 harg2 arg6 x0) (kernelRun0_A.sl.r_130 c i arg2 harg2 arg6 x0)
      (kernelRun0_A.sl.r_132 c i arg2 harg2 arg6 x0) (kernelRun0_A.sl.r_133 c i arg2 harg2 arg6 x0)
      (kernelRun0_A.sl.r_134 c i arg2 harg2 arg6 x0) (kernelRun0_A.sl.r_135 c i arg2 harg2 arg6 x0)
      (kernelRun0_A.sl.r_136 c i arg2 harg2 arg6 x0) (kernelRun0_A.sl.r_137 c i arg2 harg2 arg6 x0)
      (kernelRun0_A.sl.r_138 c i arg2 harg2 arg6 x0) (kernelRun0_A.sl.r_139 c i arg2 harg2 arg6 x0)
      (kernelRun0_A.sl.v405 c i arg2 harg2 arg6 x0) (kernelRun0_A.sl.v413 c i arg2 harg2 arg6 x0)
      (kernelRun0_A.sl.v477 c i arg2 harg2 arg6 x0) (kernelRun0_A.sl.v485 c i arg2 harg2 arg6 x0)
      (kernelRun0_A.sl.v546 c i arg2 harg2 arg6 x0) (kernelRun0_A.sl.v554 c i arg2 harg2 arg6 x0),
    k0_pay224 (kernelRun0_A.sl.r_152 c i arg2 harg2 arg6 x0),
    k0_pay225 (kernelRun0_A.sl.v8 c i arg2 harg2 arg6 x0) (kernelRun0_A.sl.r_130 c i arg2 harg2 arg6 x0)
      (kernelRun0_A.sl.r_132 c i arg2 harg2 arg6 x0) (kernelRun0_A.sl.r_133 c i arg2 harg2 arg6 x0)
      (kernelRun0_A.sl.r_134 c i arg2 harg2 arg6 x0) (kernelRun0_A.sl.r_135 c i arg2 harg2 arg6 x0)
      (kernelRun0_A.sl.r_136 c i arg2 harg2 arg6 x0) (kernelRun0_A.sl.r_137 c i arg2 harg2 arg6 x0)
      (kernelRun0_A.sl.r_138 c i arg2 harg2 arg6 x0) (kernelRun0_A.sl.r_139 c i arg2 harg2 arg6 x0)
      (kernelRun0_A.sl.v141 c i arg2 harg2 arg6 x0) (kernelRun0_A.sl.v148 c i arg2 harg2 arg6 x0)
      (kernelRun0_A.sl.v155 c i arg2 harg2 arg6 x0) (kernelRun0_A.sl.v213 c i arg2 harg2 arg6 x0)
      (kernelRun0_A.sl.v221 c i arg2 harg2 arg6 x0) (kernelRun0_A.sl.v229 c i arg2 harg2 arg6 x0),
    k0_pay227 (kernelRun0_A.sl.v8 c i arg2 harg2 arg6 x0) (kernelRun0_A.sl.r_130 c i arg2 harg2 arg6 x0)
      (kernelRun0_A.sl.r_132 c i arg2 harg2 arg6 x0) (kernelRun0_A.sl.r_134 c i arg2 harg2 arg6 x0)
      (kernelRun0_A.sl.r_135 c i arg2 harg2 arg6 x0) (kernelRun0_A.sl.r_137 c i arg2 harg2 arg6 x0)
      (kernelRun0_A.sl.r_138 c i arg2 harg2 arg6 x0) (kernelRun0_A.sl.r_153 c i arg2 harg2 arg6 x0)
      (kernelRun0_A.sl.v261 c i arg2 harg2 arg6 x0) (kernelRun0_A.sl.v270 c i arg2 harg2 arg6 x0)
      (kernelRun0_A.sl.v279 c i arg2 harg2 arg6 x0),
    k0_pay229 (kernelRun0_A.sl.r_137 c i arg2 harg2 arg6 x0) (kernelRun0_A.sl.r_138 c i arg2 harg2 arg6 x0)
      (kernelRun0_A.sl.r_154 c i arg2 harg2 arg6 x0) (kernelRun0_A.sl.v371 c i arg2 harg2 arg6 x0)
      (kernelRun0_A.sl.v379 c i arg2 harg2 arg6 x0)]

set_option maxHeartbeats 8000000 in
/-- At every channel and pixel of the tile, block `n` holds the pixel less sample `n` of the chosen ring. -/
theorem patchWords_apply (n : Fin 16) (ch : Fin 64) (h : Fin 8) (w : Fin 128) :
    patchWords c i arg2 harg2 arg6 x0 n (ix3 (n0 := 64) (n1 := 8) (n2 := 128) ch h w)
      = patch (img x0) (8 * (i 1).val + h) w n ch := by
  obtain ⟨m0, m1, m2, m3, m4, m5, m6, m7, m8⟩ := maskWords_names c i arg2 harg2 arg6 x0
  have k5 : k0_pay196 (kernelRun0_A.sl.r_108 c i arg2 harg2 arg6 x0) (kernelRun0_A.sl.r_129 c i arg2 harg2 arg6 x0)
      = maskWords c i arg2 harg2 arg6 x0 5 := rfl
  have k6 : k0_pay197 (kernelRun0_A.sl.r_111 c i arg2 harg2 arg6 x0) (kernelRun0_A.sl.r_129 c i arg2 harg2 arg6 x0)
      = maskWords c i arg2 harg2 arg6 x0 6 := rfl
  have k7 : k0_pay198 (kernelRun0_A.sl.r_112 c i arg2 harg2 arg6 x0) (kernelRun0_A.sl.r_129 c i arg2 harg2 arg6 x0)
      = maskWords c i arg2 harg2 arg6 x0 7 := rfl
  have k8 : k0_pay199 (kernelRun0_A.sl.r_115 c i arg2 harg2 arg6 x0) (kernelRun0_A.sl.r_129 c i arg2 harg2 arg6 x0)
      = maskWords c i arg2 harg2 arg6 x0 8 := rfl
  have hm := maskWords_apply c i arg2 harg2 arg6 x0 h w
  unfold patch
  fin_cases n
  all_goals simp only [patchWords, Fin.zero_eta, Fin.mk_one, Fin.reduceFinMk, Matrix.cons_val]
  on_goal 1 => unfold kernelRun0_A.sl.r_140 k0_pay200
  on_goal 2 => unfold kernelRun0_A.sl.r_142 kernelRun0_A.sl.r_141
  on_goal 3 => unfold kernelRun0_A.sl.r_143
  on_goal 5 => unfold kernelRun0_A.sl.r_144
  on_goal 7 => unfold kernelRun0_A.sl.r_145
  on_goal 8 => unfold kernelRun0_A.sl.r_146
  on_goal 9 => unfold kernelRun0_A.sl.r_147
  on_goal 10 => unfold kernelRun0_A.sl.r_149 kernelRun0_A.sl.r_148
  on_goal 11 => unfold kernelRun0_A.sl.r_150
  on_goal 13 => unfold kernelRun0_A.sl.r_152 kernelRun0_A.sl.r_151
  on_goal 15 => unfold kernelRun0_A.sl.r_153
  on_goal 16 => unfold kernelRun0_A.sl.r_154
  all_goals
    simp only [m0, m1, m2, m3, m4, m5, m6, m7, m8, k5, k6, k7, k8]
    clear m0 m1 m2 m3 m4 m5 m6 m7 m8 k5 k6 k7 k8
    generalize maskWords c i arg2 harg2 arg6 x0 = M at *
    sl_unfold_run_values
    unfold_payloads
    pointwise [hm]
    simp only [ideal_mul, win_load]
    generalize ring (img x0) (8 * (i 1).val + h) w = q
    fin_cases q <;> simp [rowOff, colOff, vert, horiz]

end Cert.Prf

end
-- ==== Proof.Store.lean ====
/-
  The store for the matrix product, read back: the sixteen blocks lie below one another, so row `k` of it is channel
  `k % 64` of sample `k / 64`.
-/
module

public import proofs.«01_k».proof.Proof.Patch

@[expose] public section

noncomputable section

namespace Cert.Prf

open Idealize.ShloMosaic Cert.KernelIdeal Cert.KernelIdeal.Gen

variable (c : Dev nD) (i : grid0.Coords) (arg2 : Memref sig .tc .vmem S1x64x136x136 .f32) (harg2 : arg2.IsWhole)
  (arg6 : Memref sig .tc .vmem S64x16x136 .f32) (arg7 : Memref sig .tc .vmem S1024x8x128 .f32)
  (x0 : Vec Ideal S1x64x136x136 .f32)

/-- The sample that row `k` of the store belongs to. -/
def sampleOf (k : Fin 1024) : Fin 16 := ⟨k.val / 64, by omega⟩

/-- The channel that row `k` of the store belongs to. -/
def chanOf (k : Fin 1024) : Fin 64 := ⟨k.val % 64, by omega⟩

/-- What the store holds at an index. -/
def stored (y : S1024x8x128.Idx) : Elt Ideal .f32 :=
  patch (img x0) (8 * (i 1).val + (y 1).val) (y 2).val (sampleOf (y 0)) (chanOf (y 0))

/-- One of the sixteen blocks, placed at its rows, holds what the store holds. -/
theorem piece_eq (n : Fin 16) (off : ℕ) (hoff : off = 64 * n.val)
    (inb : ∀ d, (![off, 0, 0] : Fin 3 → ℕ) d + (![64, 8, 128] : Fin 3 → ℕ) d ≤ S1024x8x128.size d)
    (x : (Rect.unit (s := S1024x8x128) ![off, 0, 0] ![64, 8, 128] inb).shape.Idx) :
    patchWords c i arg2 harg2 arg6 x0 n x
      = stored i x0 ((Rect.unit (s := S1024x8x128) ![off, 0, 0] ![64, 8, 128] inb).emb x) := by
  subst hoff
  obtain ⟨ch, h, w, rfl⟩ : ∃ (ch : Fin 64) (h : Fin 8) (w : Fin 128), x = ix3 ch h w := ⟨x 0, x 1, x 2, eq_ix3 x⟩
  rw [patchWords_apply]
  unfold stored
  have h0 : (Rect.unit (s := S1024x8x128) ![64 * n.val, 0, 0] ![64, 8, 128] inb).emb (ix3 ch h w) 0
      = (⟨64 * n.val + ch.val, by omega⟩ : Fin 1024) := Fin.ext (by rw [Rect.emb_apply]; simp [Rect.unit])
  have h1 : (Rect.unit (s := S1024x8x128) ![64 * n.val, 0, 0] ![64, 8, 128] inb).emb (ix3 ch h w) 1 = (h : Fin 8) :=
    Fin.ext (by rw [Rect.emb_apply]; simp [Rect.unit])
  have h2 : (Rect.unit (s := S1024x8x128) ![64 * n.val, 0, 0] ![64, 8, 128] inb).emb (ix3 ch h w) 2 = (w : Fin 128) :=
    Fin.ext (by rw [Rect.emb_apply]; simp [Rect.unit])
  rw [h0, h1, h2]
  congr 1
  · exact Fin.ext (by simp only [sampleOf]; omega)
  · exact Fin.ext (by simp only [chanOf]; omega)

/-- The store holds, at every row and pixel, the patch of its channel and sample. -/
theorem stored_apply (y : S1024x8x128.Idx) :
    View.canon (kernelRun0_A.sl.HS1_16 (F := Ideal) c i arg2 harg2 arg6 x0) y = stored i x0 y := by
  refine View.canon_apply_of_pieces (stored i x0) _ ?_ y ?_
  · unfold kernelRun0_A.sl.HS1_16
    simp only [List.forall_mem_cons]
    refine ⟨?_, ?_, ?_, ?_, ?_, ?_, ?_, ?_, ?_, ?_, ?_, ?_, ?_, ?_, ?_, ?_, by simp⟩
    · exact piece_eq c i arg2 harg2 arg6 x0 15 960 rfl _
    · exact piece_eq c i arg2 harg2 arg6 x0 14 896 rfl _
    · exact piece_eq c i arg2 harg2 arg6 x0 13 832 rfl _
    · exact piece_eq c i arg2 harg2 arg6 x0 12 768 rfl _
    · exact piece_eq c i arg2 harg2 arg6 x0 11 704 rfl _
    · exact piece_eq c i arg2 harg2 arg6 x0 10 640 rfl _
    · exact piece_eq c i arg2 harg2 arg6 x0 9 576 rfl _
    · exact piece_eq c i arg2 harg2 arg6 x0 8 512 rfl _
    · exact piece_eq c i arg2 harg2 arg6 x0 7 448 rfl _
    · exact piece_eq c i arg2 harg2 arg6 x0 6 384 rfl _
    · exact piece_eq c i arg2 harg2 arg6 x0 5 320 rfl _
    · exact piece_eq c i arg2 harg2 arg6 x0 4 256 rfl _
    · exact piece_eq c i arg2 harg2 arg6 x0 3 192 rfl _
    · exact piece_eq c i arg2 harg2 arg6 x0 2 128 rfl _
    · exact piece_eq c i arg2 harg2 arg6 x0 1 64 rfl _
    · exact piece_eq c i arg2 harg2 arg6 x0 0 0 rfl _
  · exact View.cover_of_tiledL (kernelRun0_A.sl.HS1_16 (F := Ideal) c i arg2 harg2 arg6 x0) S64x8x128.size (by sl_kernel_rfl) y

/-- A row of the store, as the product loads it. -/
theorem row_load (r : Fin 8) (inb : ∀ d, (![0, r.val, 0] : Fin 3 → ℕ) d + (![1024, 1, 128] : Fin 3 → ℕ) d ≤ S1024x8x128.size d)
    (k : Fin 1024) (w : Fin 128) :
    arg7.view.readCov (kernelRun0_A.sl.HS1_16 (F := Ideal) c i arg2 harg2 arg6 x0)
      (Rect.unit (s := S1024x8x128) ![0, r.val, 0] ![1024, 1, 128] inb).toLoadRect (ix3 (n0 := 1024) (n1 := 1) (n2 := 128) k 0 w)
      = patch (img x0) (8 * (i 1).val + r) w (sampleOf k) (chanOf k) := by
  rw [View.readCov_eq_canon']
  pointwise []
  rw [stored_apply]
  simp [stored]

end Cert.Prf

end
-- ==== Proof.Block.lean ====
/-
  What one grid point leaves in the output's buffer: for each output channel and pixel of the tile, the product of the
  weights and the stored patches, plus the bias.
-/
module

public import proofs.«01_k».proof.Proof.Store

@[expose] public section

noncomputable section

namespace Cert.Prf

open Idealize.ShloMosaic Cert.KernelIdeal Cert.KernelIdeal.Gen

/-- One row of the output: weights times a row of the store, plus the bias. -/
theorem row_out (A : Vec Ideal S64x1024 .f32) (B : Vec Ideal S64x1 .f32) (P : Vec Ideal S1024x1x128 .f32)
    (o : Fin 64) (w : Fin 128) :
    k0_pay232 A B P (ix4 (n0 := 1) (n1 := 64) (n2 := 1) (n3 := 128) 0 o 0 w)
      = (∑ k : Fin 1024, A (ix2 (n0 := 64) (n1 := 1024) o k) * P (ix3 (n0 := 1024) (n1 := 1) (n2 := 128) k 0 w) : EReal)
        + B (ix2 (n0 := 64) (n1 := 1) o 0) := by
  unfold_payloads
  pointwise [ofBits_zero]

variable (c : Dev nD) (i : grid0.Coords) (arg2 : Memref sig .tc .vmem S1x64x136x136 .f32) (harg2 : arg2.IsWhole)
  (arg3 : Memref sig .tc .vmem S64x1024 .f32) (harg3 : arg3.IsWhole)
  (arg4 : Memref sig .tc .vmem S64x1 .f32) (harg4 : arg4.IsWhole)
  (arg5 : Memref sig .tc .vmem S1x64x8x128 .f32) (harg5 : arg5.IsWhole)
  (arg6 : Memref sig .tc .vmem S64x16x136 .f32) (harg6 : arg6.IsWhole)
  (arg7 : Memref sig .tc .vmem S1024x8x128 .f32) (harg7 : arg7.IsWhole)
  (x0 : Vec Ideal S1x64x136x136 .f32) (x1 : Vec Ideal S64x1024 .f32) (x2 : Vec Ideal S64x1 .f32)

/-- What the output's buffer holds at an index. -/
def produced (y : S1x64x8x128.Idx) : Elt Ideal .f32 :=
  ((∑ k : Fin 1024, x1 (ix2 (n0 := 64) (n1 := 1024) (y 1) k)
      * patch (img x0) (8 * (i 1).val + (y 2).val) (y 3).val (sampleOf k) (chanOf k) : EReal)
    + x2 (ix2 (n0 := 64) (n1 := 1) (y 1) 0) : EReal)

/-- The weights as loaded are the weights' block. -/
theorem weight_load (o : Fin 64) (k : Fin 1024) :
    View.readAt (Elt Ideal) arg3.view (Rect.unit ![0, 0] S64x1024.size inb_S64x1024_S64x1024_0_0).toLoadRect (harg3.unread x1)
      (ix2 (n0 := 64) (n1 := 1024) o k) = x1 (ix2 (n0 := 64) (n1 := 1024) o k) := by
  simp only [View.readAt_eq_ld, harg3.read_unread]
  pointwise []

/-- The bias as loaded is the bias's block. -/
theorem bias_load (o : Fin 64) :
    View.readAt (Elt Ideal) arg4.view (Rect.unit ![0, 0] S64x1.size inb_S64x1_S64x1_0_0).toLoadRect (harg4.unread x2)
      (ix2 (n0 := 64) (n1 := 1) o 0) = x2 (ix2 (n0 := 64) (n1 := 1) o 0) := by
  simp only [View.readAt_eq_ld, harg4.read_unread]
  pointwise []

/-- One of the eight rows, placed, holds what the buffer holds. -/
theorem row_eq (r : Fin 8) (off : ℕ) (hoff : off = r.val)
    (inbP : ∀ d, (![0, off, 0] : Fin 3 → ℕ) d + (![1024, 1, 128] : Fin 3 → ℕ) d ≤ S1024x8x128.size d)
    (inb : ∀ d, (![0, 0, off, 0] : Fin 4 → ℕ) d + (![1, 64, 1, 128] : Fin 4 → ℕ) d ≤ S1x64x8x128.size d)
    (x : (Rect.unit (s := S1x64x8x128) ![0, 0, off, 0] ![1, 64, 1, 128] inb).shape.Idx) :
    k0_pay232
      (View.readAt (Elt Ideal) arg3.view (Rect.unit ![0, 0] S64x1024.size inb_S64x1024_S64x1024_0_0).toLoadRect (harg3.unread x1))
      (View.readAt (Elt Ideal) arg4.view (Rect.unit ![0, 0] S64x1.size inb_S64x1_S64x1_0_0).toLoadRect (harg4.unread x2))
      (arg7.view.readCov (kernelRun0_A.sl.HS1_16 (F := Ideal) c i arg2 harg2 arg6 x0)
        (Rect.unit (s := S1024x8x128) ![0, off, 0] ![1024, 1, 128] inbP).toLoadRect) x
      = produced i x0 x1 x2 ((Rect.unit (s := S1x64x8x128) ![0, 0, off, 0] ![1, 64, 1, 128] inb).emb x) := by
  subst hoff
  obtain ⟨z, o, z', w, rfl⟩ : ∃ (z : Fin 1) (o : Fin 64) (z' : Fin 1) (w : Fin 128), x = ix4 z o z' w :=
    ⟨x 0, x 1, x 2, x 3, eq_ix4 x⟩
  obtain rfl : z = 0 := Subsingleton.elim _ _
  obtain rfl : z' = 0 := Subsingleton.elim _ _
  rw [row_out, bias_load]
  unfold produced
  have h1 : (Rect.unit (s := S1x64x8x128) ![0, 0, r.val, 0] ![1, 64, 1, 128] inb).emb (ix4 0 o 0 w) 1 = (o : Fin 64) :=
    Fin.ext (by rw [Rect.emb_apply]; simp [Rect.unit])
  have h2 : (Rect.unit (s := S1x64x8x128) ![0, 0, r.val, 0] ![1, 64, 1, 128] inb).emb (ix4 0 o 0 w) 2 = (r : Fin 8) :=
    Fin.ext (by rw [Rect.emb_apply]; simp [Rect.unit])
  have h3 : (Rect.unit (s := S1x64x8x128) ![0, 0, r.val, 0] ![1, 64, 1, 128] inb).emb (ix4 0 o 0 w) 3 = (w : Fin 128) :=
    Fin.ext (by rw [Rect.emb_apply]; simp [Rect.unit])
  rw [h1, h2, h3]
  congr 1
  refine Finset.sum_congr rfl fun k _ => ?_
  rw [weight_load, row_load]

/-- What the output's buffer holds after the grid point, at an index. -/
theorem out_apply (y : S1x64x8x128.Idx) :
    out0_A_3 (F := Ideal) c i arg2 harg2 arg3 harg3 arg4 harg4 arg5 harg5 arg6 harg6 arg7 harg7 x0 x1 x2 y
      = produced i x0 x1 x2 y := by
  unfold out0_A_3
  rw [View.read_writes_eq_canon _ _ _
    (cover0_A_3 (F := Ideal) c i arg2 harg2 arg3 harg3 arg4 harg4 arg5 harg5 arg6 harg6 arg7 harg7 x0 x1 x2)]
  refine View.canon_apply_of_pieces (produced i x0 x1 x2) _ ?_ y
    (cover0_A_3 (F := Ideal) c i arg2 harg2 arg3 harg3 arg4 harg4 arg5 harg5 arg6 harg6 arg7 harg7 x0 x1 x2 y)
  unfold kernelRun0_A
  simp only [List.forall_mem_cons]
  refine ⟨?_, ?_, ?_, ?_, ?_, ?_, ?_, ?_, by simp⟩
  · exact row_eq c i arg2 harg2 arg3 harg3 arg4 harg4 arg6 arg7 x0 x1 x2 7 7 rfl _ _
  · exact row_eq c i arg2 harg2 arg3 harg3 arg4 harg4 arg6 arg7 x0 x1 x2 6 6 rfl _ _
  · exact row_eq c i arg2 harg2 arg3 harg3 arg4 harg4 arg6 arg7 x0 x1 x2 5 5 rfl _ _
  · exact row_eq c i arg2 harg2 arg3 harg3 arg4 harg4 arg6 arg7 x0 x1 x2 4 4 rfl _ _
  · exact row_eq c i arg2 harg2 arg3 harg3 arg4 harg4 arg6 arg7 x0 x1 x2 3 3 rfl _ _
  · exact row_eq c i arg2 harg2 arg3 harg3 arg4 harg4 arg6 arg7 x0 x1 x2 2 2 rfl _ _
  · exact row_eq c i arg2 harg2 arg3 harg3 arg4 harg4 arg6 arg7 x0 x1 x2 1 1 rfl _ _
  · exact row_eq c i arg2 harg2 arg3 harg3 arg4 harg4 arg6 arg7 x0 x1 x2 0 0 rfl _ _

end Cert.Prf

end
-- ==== Proof.Pad.lean ====
/-
  The padded image: four zeros on every side.
-/
module

public import proofs.«01_k».proof.Proof.Rule
public import proofs.«01_k».proof.KernelIdeal
public import Idealize.ShloMosaic.Lib.Pointwise

@[expose] public section

noncomputable section

namespace Cert.Prf

open Idealize.ShloMosaic Cert.KernelIdeal

/-- Image `b` of a batch, padded by four zeros on every side. -/
def padded (x : Vec Ideal S2x64x128x128 .f32) (b : Fin 2) : Img := fun ch r s =>
  if h : (4 ≤ r ∧ r < 132) ∧ (4 ≤ s ∧ s < 132) then
    x (ix4 (n0 := 2) (n1 := 64) (n2 := 128) (n3 := 128) b ch ⟨r - 4, by omega⟩ ⟨s - 4, by omega⟩) else 0

/-- The zero that pads. -/
theorem sitofp_zero : FloatOps.sitofp (F := Ideal) FTy.f32 (0#32) = (0 : EReal) := by
  show (((0#32 : BitVec 32).toInt : ℝ) : EReal) = 0
  simp

/-- The padding operation, at an index. -/
theorem padded_apply (x : Vec Ideal S2x64x128x128 .f32)
    (hp : S2x64x128x128.Pads (![0, 0, 4, 4] : Fin 4 → Nat) ![0, 0, 4, 4] ![0, 0, 0, 0] S2x64x136x136)
    (hs : 0 < S_.numel)
    (b : Fin 2) (ch : Fin 64) (r s : Fin 136) :
    pad S2x64x136x136 ![0, 0, 4, 4] ![0, 0, 4, 4] ![0, 0, 0, 0] x (sitofp (F := Ideal) .f32 (constantI S_ 32 0#32)) hp hs
      (ix4 (n0 := 2) (n1 := 64) (n2 := 136) (n3 := 136) b ch r s) = padded x b ch r.val s.val := by
  unfold padded
  pointwise []
  have h : ((4 ≤ r.val ∧ r.val - 4 < 128) ∧ 4 ≤ s.val ∧ s.val - 4 < 128)
      ↔ ((4 ≤ r.val ∧ r.val < 132) ∧ (4 ≤ s.val ∧ s.val < 132)) := by omega
  by_cases hc : (4 ≤ r.val ∧ r.val < 132) ∧ (4 ≤ s.val ∧ s.val < 132)
  · rw [dif_pos (h.mpr hc), dif_pos hc]
  · rw [dif_neg (fun g => hc (h.mp g)), dif_neg hc, sitofp_zero]

end Cert.Prf

end
-- ==== Proof.Array.lean ====
/-
  The output array after the kernel's run, over the operands the region is launched with.
-/
module

public import proofs.«01_k».proof.Proof.Block
public import proofs.«01_k».proof.Proof.Pad
public import Idealize.ShloMosaic.Lib.Pipeline.ValueKit
public import Idealize.ShloMosaic.Lib.Claim

@[expose] public section

noncomputable section

namespace Cert.Prf

open Idealize.ShloMosaic Cert.KernelIdeal Cert.KernelIdeal.Gen Idealize.ShloMosaic.TcCoe Idealize.SL.Sem
open Idealize.ShloMosaic.Pipeline (Dat)

variable (m : (ℓ : Loc nD τ sig) → Buf (Elt Ideal) ℓ) (c : Dev nD)

/-- Image `b` of the padded input, as the region is launched with it. -/
def entryImg (b : Fin 2) : Img := fun ch r s =>
  if h : r < 136 ∧ s < 136 then
    (V m c main_v0 : Vec Ideal S2x64x136x136 .f32) (ix4 (n0 := 2) (n1 := 64) (n2 := 136) (n3 := 136) b ch ⟨r, h.1⟩ ⟨s, h.2⟩) else 0

/-- The weights the region is launched with. -/
def entryWeight (o : Fin 64) (k : Fin 1024) : EReal :=
  (V m c main_v3 : Vec Ideal S64x1024 .f32) (ix2 (n0 := 64) (n1 := 1024) o k)

/-- The bias the region is launched with. -/
def entryBias (o : Fin 64) : EReal := (V m c main_v4 : Vec Ideal S64x1 .f32) (ix2 (n0 := 64) (n1 := 1) o 0)

/-- The result at an index. -/
def final (j : S2x64x128x128.Idx) : Elt Ideal .f32 :=
  ((∑ k : Fin 1024, entryWeight m c (j 1) k
      * patch (entryImg m c (j 0)) (j 2).val (j 3).val (sampleOf k) (chanOf k)) + entryBias m c (j 1) : EReal)

/-- Where each window's block lies, at a grid point: the padded input's at its image, the output's at its image and
    tile, the others at the start. -/
theorem block_index : ∀ t : Fin cfg0.N,
    (win0_0.index t 0 = ((grid0.coords t) 0).val ∧ win0_0.index t 1 = 0 ∧ win0_0.index t 2 = 0 ∧ win0_0.index t 3 = 0)
    ∧ (win0_1.index t 0 = 0 ∧ win0_1.index t 1 = 0) ∧ (win0_2.index t 0 = 0 ∧ win0_2.index t 1 = 0)
    ∧ (win0_3.index t 0 = ((grid0.coords t) 0).val ∧ win0_3.index t 1 = 0
      ∧ win0_3.index t 2 = ((grid0.coords t) 1).val ∧ win0_3.index t 3 = 0) :=
  (by decide +kernel : ∀ t : Fin grid0.N, _)

/-- The padded image a grid point is given. -/
theorem img_block (t : Fin cfg0.N) : img (iblk m c 0 t) = entryImg m c ((grid0.coords t) 0) := by
  funext ch r s
  unfold img entryImg
  split
  · rename_i h
    show V m c main_v0 ((win0_0.blk t).view.emb (ix4 (n0 := 1) (n1 := 64) (n2 := 136) (n3 := 136) 0 ch ⟨r, h.1⟩ ⟨s, h.2⟩)) = _
    obtain ⟨⟨h0, h1, h2, h3⟩, -⟩ := block_index t
    congr 1
    funext a
    fin_cases a
    · exact Fin.ext (show win0_0.index t 0 * 1 + 1 * 0 = ((grid0.coords t) 0).val by omega)
    · exact Fin.ext (show win0_0.index t 1 * 64 + 1 * ch.val = ch.val by omega)
    · exact Fin.ext (show win0_0.index t 2 * 136 + 1 * r = r by omega)
    · exact Fin.ext (show win0_0.index t 3 * 136 + 1 * s = s by omega)
  · rfl

/-- The weights a grid point is given. -/
theorem weight_block (t : Fin cfg0.N) (o : Fin 64) (k : Fin 1024) :
    iblk m c 1 t (ix2 (n0 := 64) (n1 := 1024) o k) = entryWeight m c o k := by
  show V m c main_v3 ((win0_1.blk t).view.emb (ix2 (n0 := 64) (n1 := 1024) o k)) = _
  obtain ⟨-, ⟨h0, h1⟩, -⟩ := block_index t
  congr 1
  funext a
  fin_cases a
  · exact Fin.ext (show win0_1.index t 0 * 64 + 1 * o.val = o.val by omega)
  · exact Fin.ext (show win0_1.index t 1 * 1024 + 1 * k.val = k.val by omega)

/-- The bias a grid point is given. -/
theorem bias_block (t : Fin cfg0.N) (o : Fin 64) :
    iblk m c 2 t (ix2 (n0 := 64) (n1 := 1) o 0) = entryBias m c o := by
  show V m c main_v4 ((win0_2.blk t).view.emb (ix2 (n0 := 64) (n1 := 1) o 0)) = _
  obtain ⟨-, -, ⟨h0, h1⟩, -⟩ := block_index t
  congr 1
  funext a
  fin_cases a
  · exact Fin.ext (show win0_2.index t 0 * 64 + 1 * o.val = o.val by omega)
  · exact Fin.ext (show win0_2.index t 1 * 1 + 1 * 0 = 0 by omega)

/-- The output array after the run. -/
theorem arrAt_eq : (dats m 0 c).arrAt 3 cfg0.N = final m c := by
  refine (dats m 0 c).arrAt_eq_of_covers 3 _ (by decide +kernel) fun t hf y => ?_
  blk_simp
  rw [after0_3]
  unfold outsAt0
  obtain ⟨z, o, r, w, rfl⟩ : ∃ (z : Fin 1) (o : Fin 64) (r : Fin 8) (w : Fin 128), y = ix4 z o r w :=
    ⟨y 0, y 1, y 2, y 3, eq_ix4 y⟩
  obtain rfl : z = 0 := Subsingleton.elim _ _
  obtain ⟨-, -, -, h0, h1, h2, h3⟩ := block_index t
  have e : (win0_3.blk t).view.emb (ix4 (n0 := 1) (n1 := 64) (n2 := 8) (n3 := 128) 0 o r w)
      = ix4 (n0 := 2) (n1 := 64) (n2 := 128) (n3 := 128) ((grid0.coords t) 0) o
        ⟨8 * ((grid0.coords t) 1).val + r.val, by
          have : ((grid0.coords t) 1).val < 16 := ((grid0.coords t) 1).isLt
          omega⟩ w := by
    funext a
    fin_cases a
    · exact Fin.ext (show win0_3.index t 0 * 1 + 1 * 0 = ((grid0.coords t) 0).val by omega)
    · exact Fin.ext (show win0_3.index t 1 * 64 + 1 * o.val = o.val by omega)
    · exact Fin.ext (show win0_3.index t 2 * 8 + 1 * r.val = 8 * ((grid0.coords t) 1).val + r.val by omega)
    · exact Fin.ext (show win0_3.index t 3 * 128 + 1 * w.val = w.val by omega)
  rw [e]
  refine (out_apply _ _ _ _ _ _ _ _ _ _ _ _ _ _ _ _ _ _).trans ?_
  unfold produced final
  rw [img_block]
  refine congrArg₂ (· + ·) (Finset.sum_congr rfl fun k _ => ?_) (bias_block m c t o)
  exact congrArg (fun z : EReal => z * _) (weight_block m c t o k)

/-- The weights the region is launched with, from the convolution's weights: column `k` is sample `k / 64`, channel
    `k % 64`. -/
theorem entryWeight_eq (o : Fin 64) (k : Fin 1024) :
    entryWeight m c o k = (m ((c : Thread nD τ).loc main_arg1) : Vec Ideal S64x64x4x4 .f32)
      (ix4 (n0 := 64) (n1 := 64) (n2 := 4) (n3 := 4) o (chanOf k) ⟨(sampleOf k).val / 4, by omega⟩
        ⟨(sampleOf k).val % 4, by omega⟩) := by
  unfold entryWeight
  simp only [V, hostOps0, hostOps0_1, hostOps0_2, List.flatten_cons, List.flatten_nil, List.cons_append, List.nil_append,
    List.append_nil]
  entry_read
  pointwise []
  rfl

/-- The bias the region is launched with. -/
theorem entryBias_eq (o : Fin 64) :
    entryBias m c o = (m ((c : Thread nD τ).loc main_arg2) : Vec Ideal S64 .f32) (ix1 (n0 := 64) o) := by
  unfold entryBias
  simp only [V, hostOps0, hostOps0_1, hostOps0_2, List.flatten_cons, List.flatten_nil, List.cons_append, List.nil_append,
    List.append_nil]
  entry_read
  pointwise []

/-- The padded images the region is launched with. -/
theorem entryImg_eq (b : Fin 2) :
    entryImg m c b = padded (m ((c : Thread nD τ).loc main_arg0) : Vec Ideal S2x64x128x128 .f32) b := by
  funext ch r s
  unfold entryImg
  simp only [V, hostOps0, hostOps0_1, hostOps0_2, List.flatten_cons, List.flatten_nil, List.cons_append, List.nil_append,
    List.append_nil]
  entry_read
  split
  · exact padded_apply _ pads_S2x64x128x128_S2x64x136x136_000_000_440_440 h_S_ b ch _ _
  · rename_i h
    unfold padded
    rw [dif_neg (by omega)]

end Cert.Prf

end
-- ==== Proof.Take.lean ====
/-
  Reading along an axis at given positions: the gather at an index, and the integer arithmetic of the positions.
-/
module

public import Idealize.ShloMosaic.Lib.Pointwise
public import Idealize.ShloMosaic.Lib.ValueIdx

@[expose] public section

noncomputable section

namespace Cert.Prf

open Idealize.ShloMosaic

section gather
variable {α : Type}

/-- Reading along the last of three axes. -/
abbrev alongThird (B C N R : ℕ)
    (wf : GatherDims.WF ⟨3, ![B, C, N]⟩ ⟨4, ![B, C, R, 1]⟩ ⟨3, ![B, C, R]⟩ [] [2] [0, 1] [2] [0, 1] 3 ![1, 1, 1]) :
    GatherDims ⟨3, ![B, C, N]⟩ ⟨4, ![B, C, R, 1]⟩ ⟨3, ![B, C, R]⟩ where
  offsetDims := []
  collapsedSliceDims := [2]
  operandBatchingDims := [0, 1]
  startIndicesBatchingDims := [0, 1]
  startIndexMap := [2]
  indexVectorDim := 3
  sliceSizes := ![1, 1, 1]
  wf := wf

/-- The gather along the last of three axes, at an index: the operand at the position, kept in range. -/
theorem gather_third {B C N R w : ℕ} (hN : 0 < N)
    (wf : GatherDims.WF ⟨3, ![B, C, N]⟩ ⟨4, ![B, C, R, 1]⟩ ⟨3, ![B, C, R]⟩ [] [2] [0, 1] [2] [0, 1] 3 ![1, 1, 1])
    (x : (⟨3, ![B, C, N]⟩ : Shape).Idx → α) (idx : IVec ⟨4, ![B, C, R, 1]⟩ w) (b : Fin B) (ch : Fin C) (q : Fin R) :
    Host.gather (alongThird B C N R wf) x idx (ix3 b ch q)
      = x (ix3 b ch ⟨min (idx (ix4 b ch q 0)).toInt.toNat (N - 1), by omega⟩) := by
  unfold Host.gather
  congr 1
  funext a
  refine Fin.ext ?_
  show (alongThird B C N R wf).start (ix3 b ch q) idx a + (alongThird B C N R wf).batchCoord (ix3 b ch q) a
      + (alongThird B C N R wf).offCoord (ix3 b ch q) a = _
  have key : ∀ a : Fin 3, a = 0 ∨ a = 1 ∨ a = 2 := by decide
  have hoff : (alongThird B C N R wf).offCoord (ix3 b ch q) a = 0 := by
    refine GatherDims.offCoord_eq_zero _ _ _ fun h => ((GatherDims.mem_sKept _ _).mp h).elim fun h1 h2 => ?_
    rcases key a with rfl | rfl | rfl
    · exact h2 (by simp)
    · exact h2 (by simp)
    · exact h1 (by simp)
  rw [hoff, Nat.add_zero]
  rcases key a with rfl | rfl | rfl
  · unfold GatherDims.start
    rw [dif_neg (by simp), Nat.zero_add]
    rfl
  · unfold GatherDims.start
    rw [dif_neg (by simp), Nat.zero_add]
    rfl
  · rw [GatherDims.batchCoord_eq_zero _ _ _ (by simp), Nat.add_zero]
    unfold GatherDims.start
    rw [dif_pos (show (2 : Fin 3) ∈ (alongThird B C N R wf).startIndexMap from List.mem_singleton.mpr rfl)]
    have hsi : (alongThird B C N R wf).siIdx (ix3 b ch q) ⟨List.idxOf (2 : Fin 3) (alongThird B C N R wf).startIndexMap,
        List.idxOf_lt_length_iff.2 (List.mem_singleton.mpr rfl)⟩ = ix4 b ch q 0 := by
      funext e; refine Fin.ext ?_
      match e with
      | ⟨0, _⟩ => rfl
      | ⟨1, _⟩ => rfl
      | ⟨2, _⟩ => rfl
      | ⟨3, _⟩ => rfl
    rw [hsi]
    rfl

/-- Reading along the last of four axes. -/
abbrev alongFourth (A B C N R : ℕ)
    (wf : GatherDims.WF ⟨4, ![A, B, C, N]⟩ ⟨5, ![A, B, C, R, 1]⟩ ⟨4, ![A, B, C, R]⟩ [] [3] [0, 1, 2] [3] [0, 1, 2] 4
      ![1, 1, 1, 1]) :
    GatherDims ⟨4, ![A, B, C, N]⟩ ⟨5, ![A, B, C, R, 1]⟩ ⟨4, ![A, B, C, R]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

/-- The gather along the last of four axes, at an index: the operand at the position, kept in range. -/
theorem gather_fourth {A B C N R w : ℕ} (hN : 0 < N)
    (wf : GatherDims.WF ⟨4, ![A, B, C, N]⟩ ⟨5, ![A, B, C, R, 1]⟩ ⟨4, ![A, B, C, R]⟩ [] [3] [0, 1, 2] [3] [0, 1, 2] 4
      ![1, 1, 1, 1])
    (x : (⟨4, ![A, B, C, N]⟩ : Shape).Idx → α) (idx : IVec ⟨5, ![A, B, C, R, 1]⟩ w) (b : Fin A) (y : Fin B) (z : Fin C)
    (q : Fin R) :
    Host.gather (alongFourth A B C N R wf) x idx (ix4 b y z q)
      = x (ix4 b y z ⟨min (idx (ix5 b y z q 0)).toInt.toNat (N - 1), by omega⟩) := by
  unfold Host.gather
  congr 1
  funext a
  refine Fin.ext ?_
  show (alongFourth A B C N R wf).start (ix4 b y z q) idx a + (alongFourth A B C N R wf).batchCoord (ix4 b y z q) a
      + (alongFourth A B C N R wf).offCoord (ix4 b y z q) a = _
  have key : ∀ a : Fin 4, a = 0 ∨ a = 1 ∨ a = 2 ∨ a = 3 := by decide
  have hoff : (alongFourth A B C N R wf).offCoord (ix4 b y z q) a = 0 := by
    refine GatherDims.offCoord_eq_zero _ _ _ fun h => ((GatherDims.mem_sKept _ _).mp h).elim fun h1 h2 => ?_
    rcases key a with rfl | rfl | rfl | rfl
    · exact h2 (by simp)
    · exact h2 (by simp)
    · exact h2 (by simp)
    · exact h1 (by simp)
  rw [hoff, Nat.add_zero]
  rcases key a with rfl | rfl | rfl | rfl
  · unfold GatherDims.start
    rw [dif_neg (by simp), Nat.zero_add]
    rfl
  · unfold GatherDims.start
    rw [dif_neg (by simp), Nat.zero_add]
    rfl
  · unfold GatherDims.start
    rw [dif_neg (by simp), Nat.zero_add]
    rfl
  · rw [GatherDims.batchCoord_eq_zero _ _ _ (by simp), Nat.add_zero]
    unfold GatherDims.start
    rw [dif_pos (show (3 : Fin 4) ∈ (alongFourth A B C N R wf).startIndexMap from List.mem_singleton.mpr rfl)]
    have hsi : (alongFourth A B C N R wf).siIdx (ix4 b y z q) ⟨List.idxOf (3 : Fin 4) (alongFourth A B C N R wf).startIndexMap,
        List.idxOf_lt_length_iff.2 (List.mem_singleton.mpr rfl)⟩ = ix5 b y z q 0 := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl

end gather

/-- A small natural, as a word read signed. -/
theorem toInt_ofNat (k : ℕ) (hk : k < 2147483648) : (BitVec.ofNat 32 k).toInt = (k : ℤ) := by
  rw [BitVec.toInt_eq_toNat_cond, BitVec.toNat_ofNat, Nat.mod_eq_of_lt (by omega), if_pos (by omega)]

/-- A small natural, converted to a word. -/
theorem fptosi_nat (k : ℕ) (hk : k < 2147483648) :
    FloatOps.fptosi (F := Ideal) (φ := .f32) 32 (((k : ℝ) : EReal)) = BitVec.ofNat 32 k := by
  show BitVec.ofInt 32 (max _ (min _ (if (0 : ℝ) ≤ (k : ℝ) then ⌊(k : ℝ)⌋ else ⌈(k : ℝ)⌉))) = _
  rw [if_pos (Nat.cast_nonneg k), Int.floor_natCast, min_eq_right (by norm_num; omega), max_eq_right (by norm_num)]
  rfl

/-- A natural, rounded down. -/
theorem floor_nat (k : ℕ) : FloatOps.hostUnary (F := Ideal) (φ := .f32) .floor (((k : ℝ) : EReal)) = ((k : ℝ) : EReal) := by
  show (((⌊(k : ℝ)⌋ : ℤ) : ℝ) : EReal) = _
  rw [Int.floor_natCast]
  rfl

/-- A small natural, converted from a word. -/
theorem sitofp_nat (k : ℕ) (hk : k < 2147483648) :
    FloatOps.sitofp (F := Ideal) FTy.f32 (BitVec.ofNat 32 k) = ((k : ℝ) : EReal) := by
  show (((BitVec.ofNat 32 k).toInt : ℝ) : EReal) = _
  rw [toInt_ofNat k hk]
  rfl

/-- A small natural as a position to read is itself. -/
theorem wrap_nat (k : ℕ) (hk : k < 2147483648) (z : BitVec 32) :
    Scalar.select (IntOp.cmpi .slt (BitVec.ofNat 32 k) 0#32) z (BitVec.ofNat 32 k) = BitVec.ofNat 32 k := by
  have h : IntOp.cmpi .slt (BitVec.ofNat 32 k) 0#32 = 0#1 := by
    show BitVec.ofBool ((BitVec.ofNat 32 k).slt 0#32) = 0#1
    rw [BitVec.slt_eq_decide, toInt_ofNat k hk, BitVec.toInt_zero, decide_eq_false (not_lt.mpr (Int.natCast_nonneg k))]
    rfl
  rw [h]
  rfl

/-- A small natural lies between nought and a bound that it does not pass. -/
theorem inRange_nat (k n : ℕ) (hk : k ≤ n) (hn : n < 2147483648) :
    IntOp.andi (IntOp.cmpi .sge (BitVec.ofNat 32 k) 0#32) (IntOp.cmpi .sle (BitVec.ofNat 32 k) (BitVec.ofNat 32 n)) = 1#1 := by
  have h1 : IntOp.cmpi .sge (BitVec.ofNat 32 k) 0#32 = 1#1 := by
    show BitVec.ofBool ((0#32).sle (BitVec.ofNat 32 k)) = 1#1
    rw [BitVec.sle_eq_decide, toInt_ofNat k (by omega), BitVec.toInt_zero, decide_eq_true (Int.natCast_nonneg k)]
    rfl
  have h2 : IntOp.cmpi .sle (BitVec.ofNat 32 k) (BitVec.ofNat 32 n) = 1#1 := by
    show BitVec.ofBool ((BitVec.ofNat 32 k).sle (BitVec.ofNat 32 n)) = 1#1
    rw [BitVec.sle_eq_decide, toInt_ofNat k (by omega), toInt_ofNat n hn, decide_eq_true (Int.ofNat_le.mpr hk)]
    rfl
  rw [h1, h2]
  rfl

section take
variable {α : Type} {A B C N M R : ℕ}

/-- The test that a position is in range, passed by a small natural. -/
theorem fold_inRange (idx : Fin 1 → BitVec 32) (k M : ℕ) (hk : k ≤ M) (hM : M < 2147483648) (hidx : idx 0 = BitVec.ofNat 32 k) :
    Finset.fold IntOp.andi 1#1 (fun e => IntOp.andi (IntOp.cmpi .sge (idx e) 0#32) (IntOp.cmpi .sle (idx e) (BitVec.ofNat 32 M)))
      Finset.univ = 1#1 := by
  rw [Finset.univ_unique, Finset.fold_singleton]
  show IntOp.andi (IntOp.andi (IntOp.cmpi .sge (idx 0) 0#32) (IntOp.cmpi .sle (idx 0) (BitVec.ofNat 32 M))) 1#1 = 1#1
  rw [hidx, inRange_nat k M hk hM]
  rfl

/-- Reading along the last of three axes at a position in range: the operand there, whatever stands in for a position
    out of range. -/
theorem take_third (hM : N = M + 1) (hN : N < 2147483648)
    (wf : GatherDims.WF ⟨3, ![B, C, N]⟩ ⟨4, ![B, C, R, 1]⟩ ⟨3, ![B, C, R]⟩ [] [2] [0, 1] [2] [0, 1] 3 ![1, 1, 1])
    (x : (⟨3, ![B, C, N]⟩ : Shape).Idx → α) (idx : IVec ⟨4, ![B, C, R, 1]⟩ 32) (z : α) (b : Fin B) (ch : Fin C) (q : Fin R)
    (k : ℕ) (hk : k < N) (hidx : idx (ix4 b ch q 0) = BitVec.ofNat 32 k) :
    Scalar.select (Finset.fold IntOp.andi 1#1
        (fun e => IntOp.andi (IntOp.cmpi .sge (idx (ix4 b ch q e)) 0#32)
          (IntOp.cmpi .sle (idx (ix4 b ch q e)) (BitVec.ofNat 32 M))) Finset.univ)
      (Host.gather (alongThird B C N R wf) x idx (ix3 b ch q)) z = x (ix3 b ch ⟨k, hk⟩) := by
  rw [fold_inRange (fun e => idx (ix4 b ch q e)) k M (by omega) (by omega) hidx, gather_third (by omega)]
  show x _ = _
  congr 2
  refine Fin.ext ?_
  show min (idx (ix4 b ch q 0)).toInt.toNat (N - 1) = k
  rw [hidx, toInt_ofNat k (by omega)]
  omega

/-- Reading along the last of four axes at a position in range: the operand there, whatever stands in for a position
    out of range. -/
theorem take_fourth (hM : N = M + 1) (hN : N < 2147483648)
    (wf : GatherDims.WF ⟨4, ![A, B, C, N]⟩ ⟨5, ![A, B, C, R, 1]⟩ ⟨4, ![A, B, C, R]⟩ [] [3] [0, 1, 2] [3] [0, 1, 2] 4
      ![1, 1, 1, 1])
    (x : (⟨4, ![A, B, C, N]⟩ : Shape).Idx → α) (idx : IVec ⟨5, ![A, B, C, R, 1]⟩ 32) (z : α) (a : Fin A) (b : Fin B)
    (c : Fin C) (q : Fin R) (k : ℕ) (hk : k < N) (hidx : idx (ix5 a b c q 0) = BitVec.ofNat 32 k) :
    Scalar.select (Finset.fold IntOp.andi 1#1
        (fun e => IntOp.andi (IntOp.cmpi .sge (idx (ix5 a b c q e)) 0#32)
          (IntOp.cmpi .sle (idx (ix5 a b c q e)) (BitVec.ofNat 32 M))) Finset.univ)
      (Host.gather (alongFourth A B C N R wf) x idx (ix4 a b c q)) z = x (ix4 a b c ⟨k, hk⟩) := by
  rw [fold_inRange (fun e => idx (ix5 a b c q e)) k M (by omega) (by omega) hidx, gather_fourth (by omega)]
  show x _ = _
  congr 2
  refine Fin.ext ?_
  show min (idx (ix5 a b c q 0)).toInt.toNat (N - 1) = k
  rw [hidx, toInt_ofNat k (by omega)]
  omega

end take

end Cert.Prf

end
-- ==== Proof.Order.lean ====
/-
  The reference's sort and its first greatest step, by the selection rule.
-/
module

public import proofs.«01_k».proof.Proof.RefTerms
public import proofs.«01_k».proof.Proof.Select
public import proofs.«01_k».proof.Proof.Consts
public import proofs.«01_k».proof.Proof.Take

@[expose] public section

noncomputable section

namespace Cert.Prf

open Idealize.ShloMosaic Cert.ReferenceIdeal Cert.ReferenceIdeal.Gen Cert.ReferenceIdeal.Value

/-- A number as the sort compares it: itself. -/
theorem sortKey (a : EReal) : Scalar.select (FloatOps.cmpf (F := Ideal) (φ := .f32) .une a a)
    (FloatOps.ofBits (F := Ideal) .f32 0x7FC00000#32)
    (Scalar.select (FloatOps.cmpf (F := Ideal) (φ := .f32) .oeq a (FloatOps.ofBits (F := Ideal) .f32 0x00000000#32))
      (FloatOps.ofBits (F := Ideal) .f32 0x00000000#32) a) = a := by
  have h1 : FloatOps.cmpf (F := Ideal) (φ := .f32) .une a a = 0#1 := by
    show BitVec.ofBool (decide (a ≠ a)) = _
    simp
  have h2 : FloatOps.ofBits (F := Ideal) .f32 0x00000000#32 = (0 : EReal) := ofBits_zero
  rw [h1, h2]
  show Scalar.select (BitVec.ofBool (decide (a = 0))) (0 : EReal) a = a
  by_cases h : a = 0
  · rw [decide_eq_true h, h]; rfl
  · rw [decide_eq_false h]; rfl

/-- The comparison of two numbers, as a word. -/
theorem comparator_eq (l r : EReal) :
    comparator_f32_d3 (F := Ideal) l r = BitVec.ofBool (decide (l < r)) := by
  show FloatOps.cmpfTotal (F := Ideal) (φ := .f32) .lt (Scalar.select _ _ (Scalar.select _ _ l)) (Scalar.select _ _ (Scalar.select _ _ r)) = _
  rw [sortKey l, sortKey r]
  rfl

/-- The comparison of two numbers that carry indices: only the numbers count. -/
theorem comparator2_eq (l r : EReal × BitVec 32) :
    comparator_f32_i32_d3 (F := Ideal) l r = BitVec.ofBool (decide (l.1 < r.1)) := by
  show FloatOps.cmpfTotal (F := Ideal) (φ := .f32) .lt (Scalar.select _ _ (Scalar.select _ _ l.1)) (Scalar.select _ _ (Scalar.select _ _ r.1)) = _
  rw [sortKey l.1, sortKey r.1]
  rfl

/-- A truth value as a word is one just when it holds. -/
theorem ofBool_beq_one (p : Bool) : (BitVec.ofBool p == 1#1) = p := by cases p <;> rfl

/-- The sort of the likenesses, at an index: the number that comes there in the stable order. -/
theorem sort_apply (v : FVec Ideal S2x128x128x9 .f32) (b : Fin 2) (y x : Fin 128) (r : Fin 9) :
    Host.sort S2x128x128x9 3 comparator_f32_d3 v (ix4 (n0 := 2) (n1 := 128) (n2 := 128) (n3 := 9) b y x r)
      = v (ix4 (n0 := 2) (n1 := 128) (n2 := 128) (n3 := 9) b y x
          (place (fun g => v (ix4 (n0 := 2) (n1 := 128) (n2 := 128) (n3 := 9) b y x g)) r)) := by
  have ha : ∀ k : Fin 9, Shape.Idx.along (s := S2x128x128x9) (ix4 (n0 := 2) (n1 := 128) (n2 := 128) (n3 := 9) b y x r) 3 k
      = ix4 (n0 := 2) (n1 := 128) (n2 := 128) (n3 := 9) b y x k := fun k => by
    funext e
    match e with
    | ⟨0, _⟩ => rfl
    | ⟨1, _⟩ => rfl
    | ⟨2, _⟩ => rfl
    | ⟨3, _⟩ => rfl
  unfold Host.sort
  rw [dif_pos (by decide)]
  refine (congrArg v (ha _)).trans ?_
  congr 2
  unfold place
  have hf : ∀ k k' : Fin 9, (comparator_f32_d3 (v (Shape.Idx.along (s := S2x128x128x9) (ix4 (n0 := 2) (n1 := 128) (n2 := 128) (n3 := 9) b y x r) 3 k))
      (v (Shape.Idx.along (s := S2x128x128x9) (ix4 (n0 := 2) (n1 := 128) (n2 := 128) (n3 := 9) b y x r) 3 k')) == 1#1)
      = before (fun g => v (ix4 (n0 := 2) (n1 := 128) (n2 := 128) (n3 := 9) b y x g)) k k' := fun k k' => by
    rw [ha, ha, comparator_eq, ofBool_beq_one]
    rfl
  exact congrArg (fun f => sortedFrom f r) (funext fun k => funext fun k' => hf k k')

/-- The ring numbers carried along by the sort. -/
theorem sort2_apply (v : FVec Ideal S2x128x128x9 .f32) (w : IVec S2x128x128x9 32) (b : Fin 2) (y x : Fin 128) (r : Fin 9) :
    (Host.sort2 S2x128x128x9 3 comparator_f32_i32_d3 v w).2 (ix4 (n0 := 2) (n1 := 128) (n2 := 128) (n3 := 9) b y x r)
      = w (ix4 (n0 := 2) (n1 := 128) (n2 := 128) (n3 := 9) b y x
          (place (fun g => v (ix4 (n0 := 2) (n1 := 128) (n2 := 128) (n3 := 9) b y x g)) r)) := by
  have ha : ∀ k : Fin 9, Shape.Idx.along (s := S2x128x128x9) (ix4 (n0 := 2) (n1 := 128) (n2 := 128) (n3 := 9) b y x r) 3 k
      = ix4 (n0 := 2) (n1 := 128) (n2 := 128) (n3 := 9) b y x k := fun k => by
    funext e
    match e with
    | ⟨0, _⟩ => rfl
    | ⟨1, _⟩ => rfl
    | ⟨2, _⟩ => rfl
    | ⟨3, _⟩ => rfl
  rw [Host.sort2_eq_sortBy]
  show Host.sortBy S2x128x128x9 3 comparator_f32_i32_d3 (fun j => (v j, w j)) w
    (ix4 (n0 := 2) (n1 := 128) (n2 := 128) (n3 := 9) b y x r) = _
  unfold Host.sortBy
  rw [dif_pos (by decide)]
  refine (congrArg w (ha _)).trans ?_
  congr 2
  unfold place
  have hf : ∀ k k' : Fin 9, (comparator_f32_i32_d3
      ((fun j => (v j, w j)) (Shape.Idx.along (s := S2x128x128x9) (ix4 (n0 := 2) (n1 := 128) (n2 := 128) (n3 := 9) b y x r) 3 k))
      ((fun j => (v j, w j)) (Shape.Idx.along (s := S2x128x128x9) (ix4 (n0 := 2) (n1 := 128) (n2 := 128) (n3 := 9) b y x r) 3 k')) == 1#1)
      = before (fun g => v (ix4 (n0 := 2) (n1 := 128) (n2 := 128) (n3 := 9) b y x g)) k k' := fun k k' => by
    rw [ha, ha, comparator2_eq, ofBool_beq_one]
    rfl
  exact congrArg (fun f => sortedFrom f r) (funext fun k => funext fun k' => hf k k')

section argmax

/-- `q` gives way to `r`: its number is less, or they are equal and its position is not the earlier one. -/
def GivesWay (q r : EReal × BitVec 32) : Prop := q.1 < r.1 ∨ q.1 = r.1 ∧ r.2.toInt ≤ q.2.toInt

/-- Giving way is reflexive. -/
theorem GivesWay.refl (q : EReal × BitVec 32) : GivesWay q q := .inr ⟨rfl, le_rfl⟩

/-- Giving way is transitive. -/
theorem GivesWay.trans {p q r : EReal × BitVec 32} (h : GivesWay p q) (h' : GivesWay q r) : GivesWay p r := by
  rcases h with h | ⟨h, k⟩
  · rcases h' with h' | ⟨h', -⟩
    · exact .inl (h.trans h')
    · exact .inl (h' ▸ h)
  · rcases h' with h' | ⟨h', k'⟩
    · exact .inl (h ▸ h')
    · exact .inr ⟨h.trans h', k'.trans k⟩

/-- The or of two truth values as words. -/
theorem ori_ofBool (p q : Bool) : IntOp.ori (BitVec.ofBool p) (BitVec.ofBool q) = BitVec.ofBool (p || q) := by
  cases p <;> cases q <;> decide

/-- The and of two truth values as words. -/
theorem andi_ofBool (p q : Bool) : IntOp.andi (BitVec.ofBool p) (BitVec.ofBool q) = BitVec.ofBool (p && q) := by
  cases p <;> cases q <;> decide

/-- A selection by a truth value as a word. -/
theorem select_ofBool {α : Type} (p : Bool) (a b : α) : Scalar.select (BitVec.ofBool p) a b = if p then a else b := by
  cases p <;> rfl

/-- The step of the search: one of the two, to which both give way. -/
theorem reducer_spec (a b : EReal × BitVec 32) :
    (reducer_argmax_f32_i32 (F := Ideal) a b = a ∨ reducer_argmax_f32_i32 (F := Ideal) a b = b)
      ∧ GivesWay a (reducer_argmax_f32_i32 (F := Ideal) a b) ∧ GivesWay b (reducer_argmax_f32_i32 (F := Ideal) a b) := by
  have e : reducer_argmax_f32_i32 (F := Ideal) a b
      = (Scalar.select (IntOp.ori (BitVec.ofBool (decide (b.1 < a.1))) (BitVec.ofBool (decide (a.1 ≠ a.1)))) a.1 b.1,
        Scalar.select (IntOp.ori (IntOp.ori (BitVec.ofBool (decide (b.1 < a.1))) (BitVec.ofBool (decide (a.1 ≠ a.1))))
          (IntOp.andi (BitVec.ofBool (decide (a.1 = b.1))) (BitVec.ofBool (a.2.slt b.2)))) a.2 b.2) := rfl
  rw [e, BitVec.slt_eq_decide]
  simp only [ori_ofBool, andi_ofBool, select_ofBool, ne_eq, not_true_eq_false, decide_false, Bool.or_false]
  rcases lt_trichotomy a.1 b.1 with h | h | h
  · simp only [not_lt.mpr h.le, h.ne, decide_false, Bool.false_and, Bool.or_false, Bool.false_eq_true, if_false]
    exact ⟨.inr trivial, .inl h, GivesWay.refl _⟩
  · by_cases k : a.2.toInt < b.2.toInt
    · simp only [h, k, lt_irrefl, decide_false, decide_true, Bool.true_and, Bool.or_true, Bool.false_eq_true, if_false, if_true]
      exact ⟨.inl (Prod.ext h.symm rfl), .inr ⟨h, le_rfl⟩, .inr ⟨rfl, k.le⟩⟩
    · simp only [h, k, lt_irrefl, decide_false, Bool.and_false, Bool.or_false, Bool.false_eq_true, if_false]
      exact ⟨.inr trivial, .inr ⟨h, not_lt.mp k⟩, GivesWay.refl _⟩
  · simp only [h, decide_true, Bool.true_or, if_true]
    exact ⟨.inl trivial, GivesWay.refl _, .inl h⟩

/-- The search along a list: an entry, or the start, to which the start and every entry give way. -/
theorem foldl_reducer (l : List (EReal × BitVec 32)) (a : EReal × BitVec 32) :
    (l.foldl (reducer_argmax_f32_i32 (F := Ideal)) a = a ∨ l.foldl (reducer_argmax_f32_i32 (F := Ideal)) a ∈ l)
      ∧ GivesWay a (l.foldl (reducer_argmax_f32_i32 (F := Ideal)) a)
      ∧ ∀ q ∈ l, GivesWay q (l.foldl (reducer_argmax_f32_i32 (F := Ideal)) a) := by
  induction l generalizing a with
  | nil => exact ⟨.inl rfl, GivesWay.refl _, fun q h => absurd h List.not_mem_nil⟩
  | cons b l ih =>
    obtain ⟨h1, h2, h3⟩ := ih (reducer_argmax_f32_i32 (F := Ideal) a b)
    obtain ⟨k1, k2, k3⟩ := reducer_spec a b
    rw [List.foldl_cons]
    refine ⟨?_, k2.trans h2, fun q hq => ?_⟩
    · rcases h1 with h1 | h1
      · rw [h1]
        rcases k1 with k1 | k1
        · exact .inl k1
        · rw [k1]; exact .inr List.mem_cons_self
      · exact .inr (List.mem_cons_of_mem _ h1)
    · rcases List.mem_cons.mp hq with rfl | hq
      · exact k3.trans h2
      · exact h3 q hq

/-- The search along a list that holds just the numbers `d` with their positions: the first greatest. -/
theorem foldl_firstMax (d : Fin 8 → EReal) (l : List (EReal × BitVec 32))
    (hl : ∀ q, q ∈ l ↔ ∃ k : Fin 8, (d k, BitVec.ofNat 32 k.val) = q) :
    (l.foldl (reducer_argmax_f32_i32 (F := Ideal)) (⊥, 0#32)).2 = BitVec.ofNat 32 (firstMax d).val := by
  obtain ⟨h1, -, h3⟩ := foldl_reducer l (⊥, 0#32)
  have key : ∃ k : Fin 8, (l.foldl (reducer_argmax_f32_i32 (F := Ideal)) (⊥, 0#32)) = (d k, BitVec.ofNat 32 k.val) := by
    rcases h1 with h1 | h1
    · refine ⟨0, ?_⟩
      have := h3 _ ((hl _).mpr ⟨0, rfl⟩)
      rw [h1] at this ⊢
      rcases this with h | ⟨h, -⟩
      · exact absurd h not_lt_bot
      · exact Prod.ext h.symm rfl
    · obtain ⟨k, hk⟩ := (hl _).mp h1
      exact ⟨k, hk.symm⟩
  obtain ⟨k, hk⟩ := key
  rw [hk] at h3 ⊢
  have hm : IsFirstMax d k := by
    have h4 : ∀ r : Fin 8, d r < d k ∨ d r = d k ∧ k.val ≤ r.val := fun r => by
      rcases h3 _ ((hl _).mpr ⟨r, rfl⟩) with h | ⟨h, h'⟩
      · exact .inl h
      · refine .inr ⟨h, ?_⟩
        have h' : (BitVec.ofNat 32 k.val).toInt ≤ (BitVec.ofNat 32 r.val).toInt := h'
        rw [toInt_ofNat _ (by omega), toInt_ofNat _ (by omega)] at h'
        exact Int.ofNat_le.mp h'
    refine ⟨fun r => (h4 r).elim le_of_lt fun h => h.1.le, fun r hr => (h4 r).resolve_right fun h => ?_⟩
    exact absurd (show r.val < k.val from hr) (not_lt.mpr h.2)
  rw [IsFirstMax.unique d hm (firstMax_spec d)]

end argmax

end Cert.Prf

end
-- ==== Proof.Places.lean ====
/-
  The places the reference reads at.
-/
module

public import proofs.«01_k».proof.Proof.RefTerms
public import proofs.«01_k».proof.Proof.Rule
public import proofs.«01_k».proof.Proof.Consts
public import proofs.«01_k».proof.Proof.Take

@[expose] public section

noncomputable section

namespace Cert.Prf

open Idealize.ShloMosaic Cert.ReferenceIdeal Cert.ReferenceIdeal.Gen Cert.ReferenceIdeal.Value

variable (V0 : Valuation τ sig (Elt Ideal))

/-- The place of a pixel in the padded image, by row (the first sixteen) or by column. -/
theorem v15_apply (b : Fin 2) (j : Fin 32) (y x : Fin 128) :
    res_main_v15 V0 (ix4 (n0 := 2) (n1 := 32) (n2 := 128) (n3 := 128) b j y x)
      = (((if j.val < 16 then y.val + 4 else x.val + 4 : ℕ) : ℝ) : EReal) := by
  unfold res_main_v15
  pointwise []
  have e : ∀ k : ℕ, IntOp.addi 4#32 (BitVec.ofNat 32 k) = BitVec.ofNat 32 (k + 4) := fun k => by
    show 4#32 + BitVec.ofNat 32 k = _
    rw [Nat.add_comm, BitVec.ofNat_add]
  split
  · rw [e, sitofp_nat _ (by omega)]
  · rw [e, sitofp_nat _ (by omega)]

/-- A place in the flattened padded image: from the row and the column, as the reference computes it. -/
theorem flat_word (r s : ℕ) (hr : r < 136) (hs : s < 136) :
    FloatOps.fptosi (F := Ideal) (φ := .f32) 32
      (((r : ℝ) : EReal) * Ideal.ofBits FTy.f32 1124597760#32 + ((s : ℝ) : EReal) : EReal) = BitVec.ofNat 32 (r * 136 + s) := by
  have h136 : Ideal.ofBits FTy.f32 1124597760#32 = ((136 : ℝ) : EReal) := by
    simp [Ideal.ofBits, Ideal.ieee, -EReal.coe_mul]; norm_num
  rw [h136, ← EReal.coe_mul, ← EReal.coe_add]
  have e : (r : ℝ) * 136 + (s : ℝ) = ((r * 136 + s : ℕ) : ℝ) := by push_cast; ring
  rw [e, fptosi_nat _ (by omega)]

/-- The same from the row and the column rounded down. -/
theorem flat_place (r s : ℕ) (hr : r < 136) (hs : s < 136) :
    FloatOps.fptosi (F := Ideal) (φ := .f32) 32
      ((Ideal.liftRound Int.floor ((r : ℝ) : EReal) * Ideal.ofBits FTy.f32 1124597760#32
        + Ideal.liftRound Int.floor ((s : ℝ) : EReal) : EReal)) = BitVec.ofNat 32 (r * 136 + s) := by
  have hr' : Ideal.liftRound Int.floor ((r : ℝ) : EReal) = ((r : ℝ) : EReal) := floor_nat r
  have hs' : Ideal.liftRound Int.floor ((s : ℝ) : EReal) = ((s : ℝ) : EReal) := floor_nat s
  rw [hr', hs', flat_word r s hr hs]

/-- The flattened place of a pixel, as a word. -/
theorem v25_apply (b : Fin 2) (ch : Fin 64) (q : Fin 262144) :
    res_main_v25 V0 (ix3 (n0 := 2) (n1 := 64) (n2 := 262144) b ch q)
      = BitVec.ofNat 32 ((q.val / 2048 + 4) * 136 + (q.val / 16 % 128 + 4)) := by
  unfold res_main_v25 res_main_v17
  pointwise []
  rw [v15_apply, v15_apply, if_pos (by show q.val % 16 < 16; omega), if_neg (by show ¬ 16 + q.val % 16 < 16; omega)]
  exact flat_place _ _ (by show q.val / 2048 + 4 < 136; omega) (by show q.val / 16 % 128 + 4 < 136; omega)

/-- The samples at no offset: the pixel itself, sixteen times. -/
theorem v28_apply (b : Fin 2) (ch : Fin 64) (y x : Fin 128) (n : Fin 16) :
    res_main_v28 V0 (ix5 (n0 := 2) (n1 := 64) (n2 := 128) (n3 := 128) (n4 := 16) b ch y x n)
      = res_main_v0 V0 (ix4 (n0 := 2) (n1 := 64) (n2 := 136) (n3 := 136) b ch ⟨y.val + 4, by omega⟩ ⟨x.val + 4, by omega⟩) := by
  unfold res_main_v28
  have hI : ∀ (q : Fin 262144), res_main_call1_v5 V0 (ix4 (n0 := 2) (n1 := 64) (n2 := 262144) (n3 := 1) b ch q 0)
      = BitVec.ofNat 32 ((q.val / 2048 + 4) * 136 + (q.val / 16 % 128 + 4)) := fun q => by
    unfold res_main_call1_v5
    pointwise []
    rw [v25_apply]
    exact wrap_nat _ (by omega) _
  generalize res_main_call1_v5 V0 = I at *
  generalize res_main_v0 V0 = X
  pointwise []
  refine (take_third (N := 18496) (M := 18495) rfl (by omega) gather_S2x64x18496_S2x64x262144x1_S2x64x262144_n_2_01_01_2_3_111_wf _ _ _ _ _ _ _ ?_ (hI _)).trans ?_
  · show ((y.val * 2048 + x.val * 16 + n.val) / 2048 + 4) * 136 + ((y.val * 2048 + x.val * 16 + n.val) / 16 % 128 + 4) < 18496
    omega
  pointwise []
  congr 2
  · exact Fin.ext (by show _ / 136 = y.val + 4; omega)
  · exact Fin.ext (by show _ % 136 = x.val + 4; omega)

end Cert.Prf

end
-- ==== Proof.Samples.lean ====
/-
  The places of the rings' samples.
-/
module

public import proofs.«01_k».proof.Proof.RefTerms
public import proofs.«01_k».proof.Proof.Rule
public import proofs.«01_k».proof.Proof.Consts
public import proofs.«01_k».proof.Proof.Places

@[expose] public section

noncomputable section

namespace Cert.Prf

open Idealize.ShloMosaic Cert.ReferenceIdeal Cert.ReferenceIdeal.Gen Cert.ReferenceIdeal.Value

variable (V0 : Valuation τ sig (Elt Ideal))

/-- Offset of coordinate `j` of ring `g`: the sixteen row offsets, then the sixteen column offsets. -/
def off (j : Fin 32) (g : Fin 9) : ℕ :=
  if h : j.val < 16 then rowOff g ⟨j.val, h⟩ else colOff g ⟨j.val - 16, by omega⟩

/-- An offset counted from the corner is at most eight. -/
theorem off_le : ∀ (j : Fin 32) (g : Fin 9), off j g ≤ 8 := by decide +kernel

/-- A row offset counted from the corner is at most eight. -/
theorem rowOff_le : ∀ (g : Fin 9) (n : Fin 16), rowOff g n ≤ 8 := by decide +kernel

/-- A column offset counted from the corner is at most eight. -/
theorem colOff_le : ∀ (g : Fin 9) (n : Fin 16), colOff g n ≤ 8 := by decide +kernel

/-- The first sixteen offsets are the row offsets. -/
theorem off_row (g : Fin 9) (n : Fin 16) (h : n.val < 32) : off ⟨n.val, h⟩ g = rowOff g n := by
  revert g n; decide +kernel

/-- The last sixteen offsets are the column offsets. -/
theorem off_col (g : Fin 9) (n : Fin 16) (h : 16 + n.val < 32) : off ⟨16 + n.val, h⟩ g = colOff g n := by
  revert g n; decide +kernel

/-- The words of the numbers from minus four to four. -/
def offWord : Fin 9 → BitVec 32 :=
  ![0xC0800000#32, 0xC0400000#32, 0xC0000000#32, 0xBF800000#32, 0x00000000#32, 0x3F800000#32, 0x40000000#32, 0x40400000#32,
    0x40800000#32]

/-- The nine words of the table are the numbers from minus four to four. -/
theorem offWord_apply (k : Fin 9) : Ideal.ofBits .f32 (offWord k) = (((k.val : ℝ) - 4 : ℝ) : EReal) := by
  fin_cases k <;> simp [offWord, Ideal.ofBits, Ideal.ieee, -EReal.coe_mul, -EReal.coe_neg, -EReal.coe_sub] <;> norm_num

/-- The table of the reference holds the offsets less four. -/
theorem table_eq : ∀ (j : Fin 32) (g : Fin 9),
    lit0 (S1x32x9x1x1.rowMajor (ix5 (n0 := 1) (n1 := 32) (n2 := 9) (n3 := 1) (n4 := 1) 0 j g 0 0))
      = offWord ⟨off j g, Nat.lt_succ_of_le (off_le j g)⟩ := by decide +kernel

/-- The place of a ring's sample: the pixel's place in the unpadded image plus the offset from the corner. -/
theorem v32_apply (b : Fin 2) (j : Fin 32) (g : Fin 9) (y x : Fin 128) :
    res_main_v32 V0 (ix5 (n0 := 2) (n1 := 32) (n2 := 9) (n3 := 128) (n4 := 128) b j g y x)
      = ((((if j.val < 16 then y.val else x.val) + off j g : ℕ) : ℝ) : EReal) := by
  unfold res_main_v32
  have hL : ∀ (j : Fin 32) (g : Fin 9), (fun i : S1x32x9x1x1.Idx => FloatOps.ofBits (F := Ideal) .f32 (lit0 (S1x32x9x1x1.rowMajor i)))
      (ix5 (n0 := 1) (n1 := 32) (n2 := 9) (n3 := 1) (n4 := 1) 0 j g 0 0) = (((off j g : ℝ) - 4 : ℝ) : EReal) := fun j g => by
    show Ideal.ofBits .f32 (lit0 _) = _
    rw [table_eq, offWord_apply]
  generalize (fun i : S1x32x9x1x1.Idx => FloatOps.ofBits (F := Ideal) .f32 (lit0 (S1x32x9x1x1.rowMajor i))) = L at *
  pointwise []
  rw [v15_apply, hL, ← EReal.coe_add]
  congr 1
  split <;> push_cast <;> ring

end Cert.Prf

end
-- ==== Proof.SamplePlaces.lean ====
/-
  The places of every ring's samples in the flattened padded image.
-/
module

public import proofs.«01_k».proof.Proof.Samples

@[expose] public section

noncomputable section

namespace Cert.Prf

open Idealize.ShloMosaic Cert.ReferenceIdeal Cert.ReferenceIdeal.Gen Cert.ReferenceIdeal.Value

variable (V0 : Valuation τ sig (Elt Ideal))

/-- Rings and rows put in one axis: entry `(g, y)` is at `g * 128 + y`. -/
theorem ringRow_apply {α : Type} (v : S2x32x9x128x128.Idx → α) (h : S2x32x9x128x128.ShapeCasts S2x32x1152x128)
    (b : Fin 2) (j : Fin 32) (g : Fin 9) (y x : Fin 128) (p : Fin 1152) (hp : p.val = g.val * 128 + y.val) :
    shapeCast S2x32x1152x128 v h (ix4 (n0 := 2) (n1 := 32) (n2 := 1152) (n3 := 128) b j p x)
      = v (ix5 (n0 := 2) (n1 := 32) (n2 := 9) (n3 := 128) (n4 := 128) b j g y x) := by
  rw [Pointwise.shapeCast_apply]
  congr 1
  refine Shape.reshapeEquiv_eq_of_vals h _ _ _ _ (rowMajor_val5 _ 4718592 147456 16384 128 rfl rfl rfl rfl)
    (rowMajor_val4 _ 4718592 147456 128 rfl rfl rfl) ?_
  show b.val * 4718592 + j.val * 147456 + g.val * 16384 + y.val * 128 + x.val
    = b.val * 4718592 + j.val * 147456 + p.val * 128 + x.val
  omega

/-- The second axis put last, rounded down. -/
theorem floor_secondLast_apply {A B C D : ℕ} (v : FVec Ideal ⟨4, ![A, B, C, D]⟩ .f32)
    (h : (⟨4, ![A, B, C, D]⟩ : Shape).Transposes [0, 2, 3, 1] ⟨4, ![A, C, D, B]⟩) (a : Fin A) (b : Fin B) (c : Fin C) (d : Fin D) :
    Host.floor (transpose ⟨4, ![A, C, D, B]⟩ [0, 2, 3, 1] v h) (ix4 a c d b)
      = FloatOps.hostUnary (F := Ideal) (φ := .f32) .floor (v (ix4 a b c d)) := by
  show FloatOps.hostUnary (F := Ideal) (φ := .f32) .floor (v (h.src (ix4 a c d b))) = _
  congr 2
  funext e
  match e with
  | ⟨0, _⟩ => rfl
  | ⟨1, _⟩ => rfl
  | ⟨2, _⟩ => rfl
  | ⟨3, _⟩ => rfl

/-- A sample's place, by row or by column, with the rings and rows in one axis. -/
theorem v35_apply (b : Fin 2) (j : Fin 32) (g : Fin 9) (y x : Fin 128) (p : Fin 1152) (hp : p.val = g.val * 128 + y.val) :
    res_main_v35 V0 (ix4 (n0 := 2) (n1 := 1152) (n2 := 128) (n3 := 32) b p x j)
      = ((((if j.val < 16 then y.val else x.val) + off j g : ℕ) : ℝ) : EReal) := by
  unfold res_main_v35
  have hs := fun h => (ringRow_apply (res_main_v32 V0) h b j g y x p hp).trans (v32_apply V0 b j g y x)
  have hs := hs shapeCasts_S2x32x9x128x128_S2x32x1152x128
  generalize shapeCast S2x32x1152x128 (res_main_v32 V0) shapeCasts_S2x32x9x128x128_S2x32x1152x128 = Q at *
  exact (floor_secondLast_apply (A := 2) (B := 32) (C := 1152) (D := 128) Q _ b j p x).trans (by rw [hs]; exact floor_nat _)

/-- Rings and rows, columns and samples put in one axis. -/
theorem allSamples_apply {α : Type} (v : S2x1152x128x16.Idx → α) (h : S2x1152x128x16.ShapeCasts S2x1x2359296)
    (b : Fin 2) (x : Fin 128) (n : Fin 16) (p : Fin 1152) (q : Fin 2359296) (hq : q.val = p.val * 2048 + x.val * 16 + n.val) :
    shapeCast S2x1x2359296 v h (ix3 (n0 := 2) (n1 := 1) (n2 := 2359296) b 0 q)
      = v (ix4 (n0 := 2) (n1 := 1152) (n2 := 128) (n3 := 16) b p x n) := by
  rw [Pointwise.shapeCast_apply]
  congr 1
  refine Shape.reshapeEquiv_eq_of_vals h _ _ _ _ (rowMajor_val4 _ 2359296 2048 16 rfl rfl rfl)
    (rowMajor_val3 _ 2359296 2359296 rfl rfl) ?_
  show b.val * 2359296 + p.val * 2048 + x.val * 16 + n.val = b.val * 2359296 + 0 * 2359296 + q.val
  omega

/-- The row times the padded width plus the column, as an integer: the first sixteen coordinates of a position are its
    samples' rows, the last sixteen their columns. -/
theorem flatten_apply {A B C : ℕ} (v : FVec Ideal ⟨4, ![A, B, C, 32]⟩ .f32)
    (h0 : (⟨4, ![A, B, C, 32]⟩ : Shape).Slices ![0, 0, 0, 0] ⟨4, ![A, B, C, 16]⟩)
    (h1 : (⟨4, ![A, B, C, 32]⟩ : Shape).Slices ![0, 0, 0, 16] ⟨4, ![A, B, C, 16]⟩)
    (hb : S_.BroadcastsInDim ⟨4, ![A, B, C, 16]⟩ (![] : Fin 0 → Fin 4)) (a : Fin A) (b : Fin B) (c : Fin C) (n : Fin 16)
    (r s : ℕ) (hr : r < 136) (hs : s < 136)
    (hv : v (ix4 a b c ⟨n.val, by omega⟩) = ((r : ℝ) : EReal)) (hv' : v (ix4 a b c ⟨16 + n.val, by omega⟩) = ((s : ℝ) : EReal)) :
    fptosi 32 (addf (mulf (extractStridedSlice ⟨4, ![A, B, C, 16]⟩ ![0, 0, 0, 0] v h0)
        (broadcastInDim ⟨4, ![A, B, C, 16]⟩ ![] hb (constant S_ .f32 0x43080000#32)))
      (extractStridedSlice ⟨4, ![A, B, C, 16]⟩ ![0, 0, 0, 16] v h1)) (ix4 a b c n) = BitVec.ofNat 32 (r * 136 + s) := by
  refine Eq.trans (congrArg (FloatOps.fptosi (F := Ideal) (φ := .f32) 32) (congrArg₂ (fun p q : EReal => p + q)
    (congrArg (fun p : EReal => p * Ideal.ofBits FTy.f32 1124597760#32) (?_ : v _ = ((r : ℝ) : EReal)))
    (?_ : v _ = ((s : ℝ) : EReal)))) (flat_word r s hr hs)
  · rw [← hv]
    congr 1
    funext e
    match e with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  · rw [← hv']
    congr 1
    funext e
    match e with
    | ⟨0, _⟩ => exact Fin.ext (Nat.zero_add _)
    | ⟨1, _⟩ => exact Fin.ext (Nat.zero_add _)
    | ⟨2, _⟩ => exact Fin.ext (Nat.zero_add _)
    | ⟨3, _⟩ => rfl

/-- A sample's flattened place, as a word. -/
theorem v43_apply (b : Fin 2) (ch : Fin 64) (g : Fin 9) (y x : Fin 128) (n : Fin 16) (q : Fin 2359296)
    (hq : q.val = (g.val * 128 + y.val) * 2048 + x.val * 16 + n.val) :
    res_main_v43 V0 (ix3 (n0 := 2) (n1 := 64) (n2 := 2359296) b ch q)
      = BitVec.ofNat 32 ((y.val + rowOff g n) * 136 + (x.val + colOff g n)) := by
  unfold res_main_v43
  have hs := fun (v : S2x1152x128x16.Idx → BitVec 32) h => allSamples_apply v h b x n ⟨g.val * 128 + y.val, by omega⟩ q hq
  have hR := fun j => v35_apply V0 b j g y x ⟨g.val * 128 + y.val, by omega⟩ rfl
  generalize res_main_v35 V0 = R at *
  have hP := flatten_apply (A := 2) (B := 1152) (C := 128) R slices_S2x1152x128x32_S2x1152x128x16_0_0_0_0
    slices_S2x1152x128x32_S2x1152x128x16_0_0_0_16 bcast_S_S2x1152x128x16 b ⟨g.val * 128 + y.val, by omega⟩ x n
    (y.val + rowOff g n) (x.val + colOff g n) (by have := rowOff_le g n; omega) (by have := colOff_le g n; omega)
    ((hR _).trans (by rw [if_pos n.isLt, off_row]))
    ((hR _).trans (by rw [if_neg (Nat.not_lt.mpr (Nat.le_add_right 16 n.val)), off_col]))
  have hs := (hs _ shapeCasts_S2x1152x128x16_S2x1x2359296).trans hP
  generalize shapeCast S2x1x2359296 _ shapeCasts_S2x1152x128x16_S2x1x2359296 = Q at *
  pointwise []
  exact hs

end Cert.Prf

end
-- ==== Proof.Samplings.lean ====
/-
  The samples the reference reads, for every ring.
-/
module

public import proofs.«01_k».proof.Proof.SamplePlaces

@[expose] public section

noncomputable section

namespace Cert.Prf

open Idealize.ShloMosaic Cert.ReferenceIdeal Cert.ReferenceIdeal.Gen Cert.ReferenceIdeal.Value

variable (V0 : Valuation τ sig (Elt Ideal))

/-- The samples of all rings, in one axis. -/
def ringSamples : FVec Ideal S2x64x2359296 .f32 :=
  select (Host.reduce IntOp.andi (andi
        (cmpi .sge (res_main_call2_v5 V0) (broadcastInDim S2x64x2359296x1 ![] bcast_S_S2x64x2359296x1 (constantI S_ 32 0#32)))
        (cmpi .sle (res_main_call2_v5 V0) (broadcastInDim S2x64x2359296x1 ![0, 1, 2, 3] bcast_S1x1x1x1_S2x64x2359296x1_0_1_2_3
          (broadcastInDim S1x1x1x1 ![3] bcast_S1_S1x1x1x1_3 (constantI S1 32 18495#32)))))
      (constantI S_ 1 1#1) reducesTo_S2x64x2359296x1_S2x64x2359296_d3 h_S_)
    (Host.gather gather_S2x64x18496_S2x64x2359296x1_S2x64x2359296_n_2_01_01_2_3_111
      (shapeCast _ (res_main_v0 V0) shapeCasts_S2x64x136x136_S2x64x18496) (res_main_call2_v5 V0))
    (broadcastInDim S2x64x2359296 ![] bcast_S_S2x64x2359296 (constant S_ .f32 0x7FC00000#32))

/-- A sample's flattened place is not negative, so it is used as it stands. -/
theorem call2_apply (b : Fin 2) (ch : Fin 64) (g : Fin 9) (y x : Fin 128) (n : Fin 16) (q : Fin 2359296)
    (hq : q.val = (g.val * 128 + y.val) * 2048 + x.val * 16 + n.val) :
    res_main_call2_v5 V0 (ix4 (n0 := 2) (n1 := 64) (n2 := 2359296) (n3 := 1) b ch q 0)
      = BitVec.ofNat 32 ((y.val + rowOff g n) * 136 + (x.val + colOff g n)) := by
  have h := v43_apply V0 b ch g y x n q hq
  unfold res_main_call2_v5
  generalize res_main_v43 V0 = W at *
  pointwise []
  rw [h]
  exact wrap_nat _ (by have := rowOff_le g n; have := colOff_le g n; omega) _

/-- A sample of a ring: the padded image at the pixel's place plus the ring's offset. -/
theorem ringSamples_apply (b : Fin 2) (ch : Fin 64) (g : Fin 9) (y x : Fin 128) (n : Fin 16) (q : Fin 2359296)
    (hq : q.val = (g.val * 128 + y.val) * 2048 + x.val * 16 + n.val) :
    ringSamples V0 (ix3 (n0 := 2) (n1 := 64) (n2 := 2359296) b ch q)
      = res_main_v0 V0 (ix4 (n0 := 2) (n1 := 64) (n2 := 136) (n3 := 136) b ch
          ⟨y.val + rowOff g n, by have := rowOff_le g n; omega⟩ ⟨x.val + colOff g n, by have := colOff_le g n; omega⟩) := by
  have hI := call2_apply V0 b ch g y x n q hq
  have hr := rowOff_le g n
  have hc := colOff_le g n
  unfold ringSamples
  generalize res_main_call2_v5 V0 = I at *
  generalize res_main_v0 V0 = X
  pointwise []
  refine (take_third (N := 18496) (M := 18495) rfl (by omega)
    gather_S2x64x18496_S2x64x2359296x1_S2x64x2359296_n_2_01_01_2_3_111_wf _ _ _ _ _ _ _ (by omega) hI).trans ?_
  pointwise []
  congr 2
  · exact Fin.ext (by show _ / 136 = y.val + rowOff g n; omega)
  · exact Fin.ext (by show _ % 136 = x.val + colOff g n; omega)

/-- The samples of all rings put back in five axes: images, channels, rings, rows, columns and samples. -/
theorem unfoldSamples_apply {α : Type} (v : S2x64x2359296.Idx → α) (h : S2x64x2359296.ShapeCasts S2x64x1152x128x16)
    (h' : S2x64x1152x128x16.ShapeCasts S2x64x9x128x128x16) (b : Fin 2) (ch : Fin 64) (g : Fin 9) (y x : Fin 128) (n : Fin 16)
    (q : Fin 2359296) (hq : q.val = (g.val * 128 + y.val) * 2048 + x.val * 16 + n.val) :
    shapeCast S2x64x9x128x128x16 (shapeCast S2x64x1152x128x16 v h) h'
        (ix6 (n0 := 2) (n1 := 64) (n2 := 9) (n3 := 128) (n4 := 128) (n5 := 16) b ch g y x n)
      = v (ix3 (n0 := 2) (n1 := 64) (n2 := 2359296) b ch q) := by
  rw [shapeCast_comp, Pointwise.shapeCast_apply]
  congr 1
  refine Shape.reshapeEquiv_eq_of_vals _ _ _ _ _ (rowMajor_val3 _ 150994944 2359296 rfl rfl)
    (rowMajor_val6 _ 150994944 2359296 262144 2048 16 rfl rfl rfl rfl rfl) ?_
  show b.val * 150994944 + ch.val * 2359296 + q.val
    = b.val * 150994944 + ch.val * 2359296 + g.val * 262144 + y.val * 2048 + x.val * 16 + n.val
  omega

end Cert.Prf

end
-- ==== Proof.Likeness.lean ====
/-
  The likenesses the reference computes.
-/
module

public import proofs.«01_k».proof.Proof.Samplings

@[expose] public section

noncomputable section

namespace Cert.Prf

open Idealize.ShloMosaic Cert.ReferenceIdeal Cert.ReferenceIdeal.Gen Cert.ReferenceIdeal.Value

/-- The likenesses from the rings' samples and the pixels. -/
def likeness (Q : FVec Ideal S2x64x9x128x128x16 .f32) (P : FVec Ideal S2x64x128x128x16 .f32) : FVec Ideal S2x128x128x9 .f32 :=
  transpose S2x128x128x9 [0, 2, 3, 1] (Host.divf (Host.reduceAdd (Host.divf
      (broadcastInDim S2x9x128x128x16 ![] bcast_S_S2x9x128x128x16 (constant S_ .f32 0x3F800000#32))
      (addf (broadcastInDim S2x9x128x128x16 ![] bcast_S_S2x9x128x128x16 (constant S_ .f32 0x3F800000#32))
        (Host.exp (Host.negf (Host.divf
          (Host.reduceAdd (mulf Q (broadcastInDim S2x64x9x128x128x16 ![0, 1, 2, 3, 4, 5]
            bcast_S2x64x1x128x128x16_S2x64x9x128x128x16_0_1_2_3_4_5
            (broadcastInDim S2x64x1x128x128x16 ![0, 1, 3, 4, 5] bcast_S2x64x128x128x16_S2x64x1x128x128x16_0_1_3_4_5 P)))
            (constant S_ .f32 0x00000000#32) reducesTo_S2x64x9x128x128x16_S2x9x128x128x16_d1 h_S_)
          (broadcastInDim S2x9x128x128x16 ![] bcast_S_S2x9x128x128x16 (constant S_ .f32 0x42800000#32)))))))
      (constant S_ .f32 0x00000000#32) reducesTo_S2x9x128x128x16_S2x9x128x128_d4 h_S_)
    (broadcastInDim S2x9x128x128 ![] bcast_S_S2x9x128x128 (constant S_ .f32 0x41800000#32))) transposes_S2x9x128x128_S2x128x128x9_0_2_3_1

/-- A sum over the second of six axes, at an index. -/
theorem sum_second {n0 n1 n2 n3 n4 n5 : ℕ}
    (h : (⟨6, ![n0, n1, n2, n3, n4, n5]⟩ : Shape).ReducesTo [1] ⟨5, ![n0, n2, n3, n4, n5]⟩)
    (v : (⟨6, ![n0, n1, n2, n3, n4, n5]⟩ : Shape).Idx → EReal) (a : Fin n0) (c : Fin n2) (d : Fin n3) (e : Fin n4) (f : Fin n5) :
    Ideal.hostReduceAdd h v 0 (ix5 a c d e f) = ∑ k, v (ix6 a k c d e f) := by
  show 0 + ∑ i ∈ Finset.univ.filter (fun i => h.drop i = ix5 a c d e f), v i = _
  rw [zero_add]
  refine Finset.sum_filter_eq_sum_of_fiber _ (fun k : Fin n1 => ix6 a k c d e f) (fun _ _ g => congrFun g 1) (fun i => ?_) v
  constructor
  · intro g
    refine ⟨i 1, ?_⟩
    funext q
    match q with
    | ⟨0, _⟩ => exact (Fin.ext (congrArg Fin.val (congrFun g 0))).symm
    | ⟨1, _⟩ => rfl
    | ⟨2, _⟩ => exact (Fin.ext (congrArg Fin.val (congrFun g 1))).symm
    | ⟨3, _⟩ => exact (Fin.ext (congrArg Fin.val (congrFun g 2))).symm
    | ⟨4, _⟩ => exact (Fin.ext (congrArg Fin.val (congrFun g 3))).symm
    | ⟨5, _⟩ => exact (Fin.ext (congrArg Fin.val (congrFun g 4))).symm
  · rintro ⟨k, rfl⟩
    funext q
    match q with
    | ⟨0, _⟩ => rfl
    | ⟨1, _⟩ => rfl
    | ⟨2, _⟩ => rfl
    | ⟨3, _⟩ => rfl
    | ⟨4, _⟩ => rfl

/-- The logistic function by its formula. -/
theorem logistic_formula (a : EReal) : Ideal.div 1 (1 + Ideal.exp (-a)) = Ideal.logistic a := rfl

/-- The likenesses, at an index. -/
theorem likeness_apply (Q : FVec Ideal S2x64x9x128x128x16 .f32) (P : FVec Ideal S2x64x128x128x16 .f32)
    (b : Fin 2) (y x : Fin 128) (g : Fin 9) :
    likeness Q P (ix4 (n0 := 2) (n1 := 128) (n2 := 128) (n3 := 9) b y x g)
      = ((∑ n : Fin 16, Ideal.logistic ((∑ ch : Fin 64,
            (Q (ix6 (n0 := 2) (n1 := 64) (n2 := 9) (n3 := 128) (n4 := 128) (n5 := 16) b ch g y x n) : EReal)
              * P (ix5 (n0 := 2) (n1 := 64) (n2 := 128) (n3 := 128) (n4 := 16) b ch y x n)) * ((1 / 64 : ℝ) : EReal)))
          * ((1 / 16 : ℝ) : EReal) : EReal) := by
  unfold likeness
  pointwise []
  rw [ofBits_16, ofBits_64, Ideal.div_coe (by norm_num)]
  refine congrArg (fun a : EReal => a * ((1 / 16 : ℝ) : EReal)) (Finset.sum_congr rfl fun n _ => ?_)
  rw [logistic_formula, Ideal.div_coe (by norm_num)]
  refine congrArg (fun a : EReal => Ideal.logistic (a * ((1 / 64 : ℝ) : EReal))) ((sum_second _ _ b g y x n).trans ?_)
  refine Finset.sum_congr rfl fun ch _ => ?_
  pointwise []

/-- The array of likenesses, by name. -/
theorem v63_eq (V0 : Valuation τ sig (Elt Ideal)) : res_main_v63 V0 = likeness (shapeCast S2x64x9x128x128x16
    (shapeCast S2x64x1152x128x16 (ringSamples V0) shapeCasts_S2x64x2359296_S2x64x1152x128x16)
    shapeCasts_S2x64x1152x128x16_S2x64x9x128x128x16) (res_main_v28 V0) := rfl

/-- The reference's likeness of a pixel and a ring is the likeness of the rule. -/
theorem v63_apply (V0 : Valuation τ sig (Elt Ideal)) (b : Fin 2) (X : Img)
    (hX : ∀ (ch : Fin 64) (r s : Fin 136), res_main_v0 V0 (ix4 (n0 := 2) (n1 := 64) (n2 := 136) (n3 := 136) b ch r s) = X ch r.val s.val)
    (y x : Fin 128) (g : Fin 9) :
    res_main_v63 V0 (ix4 (n0 := 2) (n1 := 128) (n2 := 128) (n3 := 9) b y x g) = sim X y.val x.val g := by
  rw [v63_eq]
  refine (likeness_apply _ _ b y x g).trans ?_
  unfold sim gate
  refine congrArg (fun a : EReal => a * ((1 / 16 : ℝ) : EReal)) (Finset.sum_congr rfl fun n _ => ?_)
  refine congrArg (fun a : EReal => Ideal.logistic (a * ((1 / 64 : ℝ) : EReal))) (Finset.sum_congr rfl fun ch _ => ?_)
  rw [unfoldSamples_apply _ _ _ b ch g y x n ⟨(g.val * 128 + y.val) * 2048 + x.val * 16 + n.val, by omega⟩ rfl,
    ringSamples_apply V0 b ch g y x n _ rfl, v28_apply, hX, hX]
  exact mul_comm _ _

end Cert.Prf

end
-- ==== Proof.Choice.lean ====
/-
  The reference's choice of a ring: the likenesses in order, their steps and the first greatest step.
-/
module

public import proofs.«01_k».proof.Proof.Order
public import proofs.«01_k».proof.Proof.Likeness

@[expose] public section

noncomputable section

namespace Cert.Prf

open Idealize.ShloMosaic Cert.ReferenceIdeal Cert.ReferenceIdeal.Gen Cert.ReferenceIdeal.Value

/-- The logistic function takes real values. -/
theorem logistic_real (a : EReal) : ∃ r : ℝ, Ideal.logistic a = (r : EReal) := by
  induction a using EReal.rec with
  | bot => exact ⟨0, by simp⟩
  | coe r => exact ⟨_, Ideal.logistic_coe r⟩
  | top => exact ⟨1, by simp⟩

/-- A sum of real numbers is real. -/
theorem sum_real {n : ℕ} (f : Fin n → EReal) (h : ∀ k, ∃ r : ℝ, f k = (r : EReal)) : ∃ r : ℝ, ∑ k, f k = (r : EReal) := by
  choose r hr using h
  refine ⟨∑ k, r k, ?_⟩
  rw [Finset.sum_congr rfl fun k _ => hr k]
  induction (Finset.univ : Finset (Fin n)) using Finset.induction_on with
  | empty => simp
  | insert a s ha ih => rw [Finset.sum_insert ha, Finset.sum_insert ha, ih, EReal.coe_add]

/-- A likeness is a real number. -/
theorem sim_real (X : Img) (y x : ℕ) (g : Fin 9) : ∃ r : ℝ, sim X y x g = (r : EReal) := by
  obtain ⟨r, hr⟩ := sum_real (fun n => gate X y x (rowOff g n) (colOff g n)) fun n => logistic_real _
  exact ⟨r * (1 / 16), by rw [sim, hr, ← EReal.coe_mul]⟩

/-- A step between neighbours in ascending order is not negative. -/
theorem steps_nonneg (s : Fin 9 → EReal) (h : ∀ g, ∃ r : ℝ, s g = (r : EReal)) (k : Fin 8) : 0 ≤ steps s k := by
  have hle := place_le s k.castSucc k.succ (Fin.castSucc_lt_succ).le
  unfold steps
  obtain ⟨p, hp⟩ := h (place s k.succ)
  obtain ⟨q, hq⟩ := h (place s k.castSucc)
  rw [hp, hq] at hle ⊢
  rw [← EReal.coe_sub]
  have := EReal.coe_le_coe_iff.mp hle
  exact EReal.coe_nonneg.mpr (by linarith)

/-- The least word stands for the least number. -/
theorem ofBits_bot : Ideal.ofBits .f32 0xFF800000#32 = ⊥ := by
  simp [Ideal.ofBits, Ideal.ieee]

section
variable (V0 : Valuation τ sig (Elt Ideal)) (b : Fin 2) (y x : Fin 128) (s : Fin 9 → EReal)
  (hs : ∀ g : Fin 9, res_main_v63 V0 (ix4 (n0 := 2) (n1 := 128) (n2 := 128) (n3 := 9) b y x g) = s g)

include hs

/-- The likenesses in ascending order. -/
theorem v65_apply (r : Fin 9) : res_main_v65 V0 (ix4 (n0 := 2) (n1 := 128) (n2 := 128) (n3 := 9) b y x r) = s (place s r) := by
  unfold res_main_v65
  rw [sort_apply, funext hs, hs]

/-- The steps between neighbours. -/
theorem v66_apply (k : Fin 8) : res_main_v66 V0 (ix4 (n0 := 2) (n1 := 128) (n2 := 128) (n3 := 8) b y x k) = steps s k := by
  have h := v65_apply V0 b y x s hs
  unfold res_main_v66
  generalize res_main_v65 V0 = W at *
  pointwise []
  exact congrArg₂ (fun p q : EReal => p - q) ((congrArg (fun i => W (ix4 b y x i)) (Fin.ext (Nat.add_comm 1 k.val))).trans (h k.succ))
    (h k.castSucc)

/-- The first greatest step. -/
theorem v69_apply : res_main_v69 V0 (ix4 (n0 := 2) (n1 := 128) (n2 := 128) (n3 := 1) b y x 0)
    = BitVec.ofNat 32 (firstMax (steps s)).val := by
  have h := v66_apply V0 b y x s hs
  unfold res_main_v69
  rw [Ideal.argReduce_eq_reduce2]
  generalize res_main_v66 V0 = W at *
  pointwise []
  rw [Host.reduce2_eq_foldl_fiber]
  refine Eq.trans ?_ (foldl_firstMax (steps s) (Host.argReduceFiber W (res_main_call6_v0 V0) reducesTo_S2x128x128x8_S2x128x128_d3
    (ix3 (n0 := 2) (n1 := 128) (n2 := 128) b y x)) fun q => ?_)
  · have e : res_main_call6_cst V0 (Shape.Idx.first h_S_) = (⊥ : EReal) := ofBits_bot
    rw [e]
    rfl
  · rw [Host.argReduceFiber]
    simp only [List.mem_map, List.mem_filter, List.mem_finRange, true_and, decide_eq_true_eq]
    constructor
    · rintro ⟨n, hn, rfl⟩
      obtain ⟨k, hk⟩ := (reducesTo_S2x128x128x8_S2x128x128_d3.fiber_r4_a3 _ _).mp hn
      refine ⟨k, ?_⟩
      rw [← hk]
      exact Prod.ext (h k).symm rfl
    · rintro ⟨k, rfl⟩
      refine ⟨S2x128x128x8.rowMajor (ix4 (n0 := 2) (n1 := 128) (n2 := 128) (n3 := 8) b y x k), ?_, ?_⟩
      · rw [Equiv.symm_apply_apply]
        exact (reducesTo_S2x128x128x8_S2x128x128_d3.fiber_r4_a3 _ _).mpr ⟨k, rfl⟩
      · rw [Equiv.symm_apply_apply, h k]
        rfl

/-- The first greatest step as a position to read. -/
theorem call7_apply : res_main_call7_v5 V0 (ix5 (n0 := 2) (n1 := 128) (n2 := 128) (n3 := 1) (n4 := 1) b y x 0 0)
    = BitVec.ofNat 32 (firstMax (steps s)).val := by
  have h := v69_apply V0 b y x s hs
  unfold res_main_call7_v5
  generalize res_main_v69 V0 = W at *
  pointwise []
  rw [h]
  exact wrap_nat _ (by omega) _

/-- The greatest step is not negative. -/
theorem v73_apply (hr : ∀ g, ∃ r : ℝ, s g = (r : EReal)) :
    res_main_v73 V0 (ix3 (n0 := 2) (n1 := 128) (n2 := 128) b y x) = 1#1 := by
  have h := v66_apply V0 b y x s hs
  unfold res_main_v73
  generalize res_main_v66 V0 = W at *
  pointwise []
  have hle : (0 : EReal) ≤ Finset.fold max (Ideal.ofBits FTy.f32 4286578688#32) (fun k : Fin 8 => W (ix4 b y x k)) Finset.univ :=
    Finset.le_fold_max _ |>.mpr (.inr ⟨0, Finset.mem_univ _, (steps_nonneg s hr 0).trans_eq (h 0).symm⟩)
  rw [decide_eq_true hle]
  rfl

end

end Cert.Prf

end
-- ==== Proof.Chosen.lean ====
/-
  The samples of the ring the reference chooses.
-/
module

public import proofs.«01_k».proof.Proof.Choice

@[expose] public section

noncomputable section

namespace Cert.Prf

open Idealize.ShloMosaic Cert.ReferenceIdeal Cert.ReferenceIdeal.Gen Cert.ReferenceIdeal.Value

variable (V0 : Valuation τ sig (Elt Ideal))

/-- The number of the ring at which the greatest step starts. -/
def stepRing : IVec S2x128x128x1 32 :=
  select (Host.reduce IntOp.andi (andi
      (cmpi .sge (res_main_call7_v5 V0) (broadcastInDim S2x128x128x1x1 ![] bcast_S_S2x128x128x1x1 (constantI S_ 32 0#32)))
      (cmpi .sle (res_main_call7_v5 V0) (broadcastInDim S2x128x128x1x1 ![0, 1, 2, 3, 4] bcast_S1x1x1x1x1_S2x128x128x1x1_0_1_2_3_4
        (broadcastInDim S1x1x1x1x1 ![4] bcast_S1_S1x1x1x1x1_4 (constantI S1 32 8#32)))))
      (constantI S_ 1 1#1) reducesTo_S2x128x128x1x1_S2x128x128x1_d4 h_S_)
    (Host.gather gather_S2x128x128x9_S2x128x128x1x1_S2x128x128x1_n_3_012_012_3_4_1111
      ((Host.sort2 S2x128x128x9 3 comparator_f32_i32_d3 (res_main_v63 V0) (res_main_call3_v0 V0)).2) (res_main_call7_v5 V0))
    (broadcastInDim S2x128x128x1 ![] bcast_S_S2x128x128x1 (constantI S_ 32 2147483648#32))

/-- The number of the chosen ring: where the greatest step is negative, ring nought. -/
def ringWord : IVec S2x128x128 32 :=
  addi (muli (shapeCast _ (stepRing V0) shapeCasts_S2x128x128x1_S2x128x128) (extui 32 (res_main_v73 V0) natLt_1_32))
    (muli (muli (broadcastInDim S2x128x128 ![] bcast_S_S2x128x128 (constantI S_ 32 0#32))
      (broadcastInDim S2x128x128 ![] bcast_S_S2x128x128 (constantI S_ 32 1#32))) (extui 32 (noti (res_main_v73 V0)) natLt_1_32))

/-- One at the chosen ring, nought at the others. -/
def mask : FVec Ideal S2x9x128x128 .f32 :=
  uitofp .f32 (cmpi .eq (broadcastInDim S2x9x128x128 ![0, 1, 2, 3] bcast_S2x1x128x128_S2x9x128x128_0_1_2_3
      (broadcastInDim S2x1x128x128 ![0, 2, 3] bcast_S2x128x128_S2x1x128x128_0_2_3 (ringWord V0)))
    (broadcastInDim S2x9x128x128 ![0, 1, 2, 3] bcast_S1x9x1x1_S2x9x128x128_0_1_2_3
      (shapeCast _ (iotaInDim S9 32 0) shapeCasts_S9_S1x9x1x1)))

/-- The places of the chosen samples, by the mask: the sum over the rings of places times mask, rounded down. -/
theorem v95_eq : res_main_v95 V0 = Host.floor (transpose S2x128x128x32 [0, 2, 3, 1] (Host.reduceAdd (mulf (res_main_v32 V0)
      (broadcastInDim S2x32x9x128x128 ![0, 1, 2, 3, 4] bcast_S2x1x9x128x128_S2x32x9x128x128_0_1_2_3_4
        (broadcastInDim S2x1x9x128x128 ![0, 2, 3, 4] bcast_S2x9x128x128_S2x1x9x128x128_0_2_3_4 (mask V0))))
      (constant S_ .f32 0x00000000#32) reducesTo_S2x32x9x128x128_S2x32x128x128_d2 h_S_)
    transposes_S2x32x128x128_S2x128x128x32_0_2_3_1) := rfl

section
variable (b : Fin 2) (y x : Fin 128) (s : Fin 9 → EReal)
  (hs : ∀ g : Fin 9, res_main_v63 V0 (ix4 (n0 := 2) (n1 := 128) (n2 := 128) (n3 := 9) b y x g) = s g)

include hs

/-- The sorted index at the place of the first greatest step is the chosen ring. -/
theorem stepRing_apply : stepRing V0 (ix4 (n0 := 2) (n1 := 128) (n2 := 128) (n3 := 1) b y x 0)
    = BitVec.ofNat 32 (chosen s).val := by
  have hI := call7_apply V0 b y x s hs
  unfold stepRing
  have hW := sort2_apply (res_main_v63 V0) (res_main_call3_v0 V0) b y x (firstMax (steps s)).castSucc
  rw [funext hs] at hW
  generalize (Host.sort2 S2x128x128x9 3 comparator_f32_i32_d3 (res_main_v63 V0) (res_main_call3_v0 V0)).2 = W at *
  generalize res_main_call7_v5 V0 = I at *
  pointwise []
  refine (take_fourth (N := 9) (M := 8) rfl (by omega)
    gather_S2x128x128x9_S2x128x128x1x1_S2x128x128x1_n_3_012_012_3_4_1111_wf _ _ _ _ _ _ _ _ (by omega) hI).trans ?_
  refine Eq.trans hW ?_
  rfl

variable (hr : ∀ g, ∃ r : ℝ, s g = (r : EReal))
include hr

/-- The threshold is always met, so the ring kept is the chosen one. -/
theorem ringWord_apply : ringWord V0 (ix3 (n0 := 2) (n1 := 128) (n2 := 128) b y x) = BitVec.ofNat 32 (chosen s).val := by
  have h1 := stepRing_apply V0 b y x s hs
  have h2 := v73_apply V0 b y x s hs hr
  unfold ringWord
  generalize stepRing V0 = W at *
  generalize res_main_v73 V0 = K at *
  pointwise []
  rw [h1, h2]
  generalize chosen s = g
  revert g
  decide +kernel

/-- The mask of a ring is one at the pixels that chose it and zero elsewhere. -/
theorem mask_apply (g : Fin 9) : mask V0 (ix4 (n0 := 2) (n1 := 9) (n2 := 128) (n3 := 128) b g y x)
    = (if chosen s = g then 1 else 0 : EReal) := by
  have h := ringWord_apply V0 b y x s hs hr
  unfold mask
  generalize ringWord V0 = W at *
  pointwise []
  rw [h]
  generalize chosen s = c
  have e : IntOp.cmpi .eq (BitVec.ofNat 32 c.val) (BitVec.ofNat 32 g.val) = BitVec.ofBool (decide (c = g)) := by
    revert c g; decide +kernel
  rw [e]
  show ((((BitVec.ofBool (decide (c = g))).toNat : ℕ) : ℝ) : EReal) = _
  by_cases hc : c = g <;> simp [hc]

/-- The places of the chosen ring's samples. -/
theorem v95_apply (j : Fin 32) : res_main_v95 V0 (ix4 (n0 := 2) (n1 := 128) (n2 := 128) (n3 := 32) b y x j)
    = ((((if j.val < 16 then y.val else x.val) + off j (chosen s) : ℕ) : ℝ) : EReal) := by
  have hm := mask_apply V0 b y x s hs hr
  have hv := fun g => v32_apply V0 b j g y x
  rw [v95_eq]
  generalize mask V0 = M at *
  generalize res_main_v32 V0 = W at *
  pointwise []
  simp only [hm, hv, mul_ite, mul_one, mul_zero, Finset.sum_ite_eq, Finset.mem_univ, if_true]
  exact floor_nat _

/-- The chosen samples' places in the flattened padded image. -/
theorem v103_apply (ch : Fin 64) (n : Fin 16) (q : Fin 262144) (hq : q.val = y.val * 2048 + x.val * 16 + n.val) :
    res_main_v103 V0 (ix3 (n0 := 2) (n1 := 64) (n2 := 262144) b ch q)
      = BitVec.ofNat 32 ((y.val + rowOff (chosen s) n) * 136 + (x.val + colOff (chosen s) n)) := by
  have hR := v95_apply V0 b y x s hs hr
  unfold res_main_v103
  generalize res_main_v95 V0 = R at *
  have hP := flatten_apply (A := 2) (B := 128) (C := 128) R slices_S2x128x128x32_S2x128x128x16_0_0_0_0
    slices_S2x128x128x32_S2x128x128x16_0_0_0_16 bcast_S_S2x128x128x16 b y x n
    (y.val + rowOff (chosen s) n) (x.val + colOff (chosen s) n)
    (by have := rowOff_le (chosen s) n; omega) (by have := colOff_le (chosen s) n; omega)
    ((hR _).trans (by rw [if_pos n.isLt, off_row]))
    ((hR _).trans (by rw [if_neg (Nat.not_lt.mpr (Nat.le_add_right 16 n.val)), off_col]))
  have hQ : ∀ Q : IVec S2x128x128x16 32, broadcastInDim S2x64x262144 ![0, 1, 2] bcast_S2x1x262144_S2x64x262144_0_1_2
      (shapeCast _ Q shapeCasts_S2x128x128x16_S2x1x262144) (ix3 (n0 := 2) (n1 := 64) (n2 := 262144) b ch q)
      = Q (ix4 (n0 := 2) (n1 := 128) (n2 := 128) (n3 := 16) b y x n) := fun Q => by
    pointwise []
    congr 1
    funext e
    match e with
    | ⟨0, _⟩ => rfl
    | ⟨1, _⟩ => exact Fin.ext (by show q.val / 2048 = y.val; omega)
    | ⟨2, _⟩ => exact Fin.ext (by show q.val / 16 % 128 = x.val; omega)
    | ⟨3, _⟩ => exact Fin.ext (by show q.val % 16 = n.val; omega)
  exact (hQ _).trans hP

/-- The flattened place of a chosen sample is not negative, so it is used as it stands. -/
theorem call8_apply (ch : Fin 64) (n : Fin 16) (q : Fin 262144) (hq : q.val = y.val * 2048 + x.val * 16 + n.val) :
    res_main_call8_v5 V0 (ix4 (n0 := 2) (n1 := 64) (n2 := 262144) (n3 := 1) b ch q 0)
      = BitVec.ofNat 32 ((y.val + rowOff (chosen s) n) * 136 + (x.val + colOff (chosen s) n)) := by
  have h := v103_apply V0 b y x s hs hr ch n q hq
  unfold res_main_call8_v5
  generalize res_main_v103 V0 = W at *
  pointwise []
  rw [h]
  exact wrap_nat _ (by have := rowOff_le (chosen s) n; have := colOff_le (chosen s) n; omega) _

end

end Cert.Prf

end
-- ==== Proof.Result.lean ====
/-
  What the reference's result array holds.
-/
module

public import proofs.«01_k».proof.Proof.Chosen

@[expose] public section

noncomputable section

namespace Cert.Prf

open Idealize.ShloMosaic Cert.ReferenceIdeal Cert.ReferenceIdeal.Gen Cert.ReferenceIdeal.Value

variable (V0 : Valuation τ sig (Elt Ideal))

/-- The chosen rings' samples, in one axis. -/
def chosenSamples : FVec Ideal S2x64x262144 .f32 :=
  select (Host.reduce IntOp.andi (andi
        (cmpi .sge (res_main_call8_v5 V0) (broadcastInDim S2x64x262144x1 ![] bcast_S_S2x64x262144x1 (constantI S_ 32 0#32)))
        (cmpi .sle (res_main_call8_v5 V0) (broadcastInDim S2x64x262144x1 ![0, 1, 2, 3] bcast_S1x1x1x1_S2x64x262144x1_0_1_2_3
          (broadcastInDim S1x1x1x1 ![3] bcast_S1_S1x1x1x1_3 (constantI S1 32 18495#32)))))
      (constantI S_ 1 1#1) reducesTo_S2x64x262144x1_S2x64x262144_d3 h_S_)
    (Host.gather gather_S2x64x18496_S2x64x262144x1_S2x64x262144_n_2_01_01_2_3_111
      (shapeCast _ (res_main_v0 V0) shapeCasts_S2x64x136x136_S2x64x18496) (res_main_call8_v5 V0))
    (broadcastInDim S2x64x262144 ![] bcast_S_S2x64x262144 (constant S_ .f32 0x7FC00000#32))

/-- The pixels less their chosen rings' samples. -/
def patches : FVec Ideal S2x64x128x128x16 .f32 :=
  subf (res_main_v28 V0) (shapeCast _ (chosenSamples V0) shapeCasts_S2x64x262144_S2x64x128x128x16)

/-- The reference's result: the convolution of the patches and the bias. -/
def result (w : FVec Ideal S64x64x4x4 .f32) (bias : FVec Ideal S64 .f32) (P : FVec Ideal S2x64x128x128x16 .f32) :
    FVec Ideal S2x64x128x128 .f32 :=
  addf (transpose S2x64x128x128 [1, 0, 2, 3] (Host.dotGeneral
      dot_S64x64x16_S2x64x128x128x16_S64x2x128x128_12_14_0_023_n_n none (shapeCast _ w shapeCasts_S64x64x4x4_S64x64x16) P)
      transposes_S64x2x128x128_S2x64x128x128_1_0_2_3)
    (broadcastInDim S2x64x128x128 ![0, 1, 2, 3] bcast_S1x64x1x1_S2x64x128x128_0_1_2_3
      (shapeCast _ bias shapeCasts_S64_S1x64x1x1))

variable (b : Fin 2) (X : Img)
  (hX : ∀ (ch : Fin 64) (r s : Fin 136), res_main_v0 V0 (ix4 (n0 := 2) (n1 := 64) (n2 := 136) (n3 := 136) b ch r s) = X ch r.val s.val)

include hX in
/-- A sample of a pixel's chosen ring. -/
theorem chosenSamples_apply (ch : Fin 64) (y x : Fin 128) (n : Fin 16) (q : Fin 262144)
    (hq : q.val = y.val * 2048 + x.val * 16 + n.val) :
    chosenSamples V0 (ix3 (n0 := 2) (n1 := 64) (n2 := 262144) b ch q)
      = X ch (y.val + rowOff (ring X y.val x.val) n) (x.val + colOff (ring X y.val x.val) n) := by
  have hI := call8_apply V0 b y x (sim X y.val x.val) (fun g => v63_apply V0 b X hX y x g) (fun g => sim_real X _ _ g) ch n q hq
  have hr := rowOff_le (chosen (sim X y.val x.val)) n
  have hc := colOff_le (chosen (sim X y.val x.val)) n
  unfold ring
  generalize chosen (sim X y.val x.val) = g at *
  unfold chosenSamples
  generalize res_main_call8_v5 V0 = I at *
  generalize res_main_v0 V0 = W at *
  pointwise []
  refine (take_third (N := 18496) (M := 18495) rfl (by omega)
    gather_S2x64x18496_S2x64x262144x1_S2x64x262144_n_2_01_01_2_3_111_wf _ _ _ _ _ _ _ (by omega) hI).trans ?_
  pointwise []
  rw [hX]
  congr 1
  · show _ / 136 = y.val + rowOff g n; omega
  · show _ % 136 = x.val + colOff g n; omega

/-- The chosen rings' samples put back in five axes. -/
theorem unfoldChosen_apply {α : Type} (v : S2x64x262144.Idx → α) (h : S2x64x262144.ShapeCasts S2x64x128x128x16)
    (ch : Fin 64) (y x : Fin 128) (n : Fin 16) (q : Fin 262144) (hq : q.val = y.val * 2048 + x.val * 16 + n.val) :
    shapeCast S2x64x128x128x16 v h (ix5 (n0 := 2) (n1 := 64) (n2 := 128) (n3 := 128) (n4 := 16) b ch y x n)
      = v (ix3 (n0 := 2) (n1 := 64) (n2 := 262144) b ch q) := by
  rw [Pointwise.shapeCast_apply]
  congr 1
  refine Shape.reshapeEquiv_eq_of_vals _ _ _ _ _ (rowMajor_val3 _ 16777216 262144 rfl rfl)
    (rowMajor_val5 _ 16777216 262144 2048 16 rfl rfl rfl rfl) ?_
  show b.val * 16777216 + ch.val * 262144 + q.val
    = b.val * 16777216 + ch.val * 262144 + y.val * 2048 + x.val * 16 + n.val
  omega

/-- A difference of two arrays, at an index. -/
theorem sub_at {s : Shape} (u v : FVec Ideal s .f32) (j : s.Idx) : subf u v j = (u j - v j : EReal) := rfl

include hX in
/-- A patch, at an index. -/
theorem patches_apply (ch : Fin 64) (y x : Fin 128) (n : Fin 16) :
    patches V0 (ix5 (n0 := 2) (n1 := 64) (n2 := 128) (n3 := 128) (n4 := 16) b ch y x n) = patch X y.val x.val n ch := by
  have h1 := v28_apply V0 b ch y x n
  rw [hX] at h1
  have h2 := (unfoldChosen_apply b (chosenSamples V0) shapeCasts_S2x64x262144_S2x64x128x128x16 ch y x n
    ⟨y.val * 2048 + x.val * 16 + n.val, by omega⟩ rfl).trans (chosenSamples_apply V0 b X hX ch y x n _ rfl)
  unfold patches patch
  rw [sub_at, h1, h2]

/-- The reference's result, at an index: the sum over channels and samples of weight and patch, and the bias. -/
theorem result_apply (w : FVec Ideal S64x64x4x4 .f32) (bias : FVec Ideal S64 .f32) (P : FVec Ideal S2x64x128x128x16 .f32)
    (o : Fin 64) (y x : Fin 128) :
    result w bias P (ix4 (n0 := 2) (n1 := 64) (n2 := 128) (n3 := 128) b o y x)
      = ((∑ ch : Fin 64, ∑ n : Fin 16, (w (ix4 (n0 := 64) (n1 := 64) (n2 := 4) (n3 := 4) o ch ⟨n.val / 4, by omega⟩ ⟨n.val % 4, by omega⟩) : EReal)
          * P (ix5 (n0 := 2) (n1 := 64) (n2 := 128) (n3 := 128) (n4 := 16) b ch y x n)) + bias (ix1 (n0 := 64) o) : EReal) := by
  unfold result
  pointwise []

end Cert.Prf

end
-- ==== Proof.Equation.lean ====
/-
  The kernel's result and the reference's are the same array.
-/
module

public import proofs.«01_k».proof.Proof.Array
public import proofs.«01_k».proof.Proof.Result

@[expose] public section

noncomputable section

namespace Cert.Prf

open Idealize.ShloMosaic Idealize.ShloMosaic.StableHlo Idealize.SL.Sem

/-- Rows of the kernel's store are pairs of a channel and a sample. -/
def rowEquiv : Fin 1024 ≃ Fin 64 × Fin 16 where
  toFun k := (chanOf k, sampleOf k)
  invFun p := ⟨64 * p.2.val + p.1.val, by omega⟩
  left_inv k := Fin.ext (by simp only [chanOf, sampleOf]; omega)
  right_inv p := by
    refine Prod.ext (Fin.ext ?_) (Fin.ext ?_)
    · simp only [chanOf]; omega
    · simp only [sampleOf]; omega

/-- A sum over the store's rows is the sum over channels and samples. -/
theorem sum_rows (f : Fin 64 → Fin 16 → EReal) :
    ∑ k : Fin 1024, f (chanOf k) (sampleOf k) = ∑ ch : Fin 64, ∑ n : Fin 16, f ch n := by
  rw [Fintype.sum_equiv rowEquiv (fun k => f (chanOf k) (sampleOf k)) (fun p => f p.1 p.2) fun _ => rfl,
    Fintype.sum_prod_type]

/-- What a channel and a sample contribute to a result: weight times patch. -/
def contribution (w : Vec Ideal Cert.KernelIdeal.S64x64x4x4 .f32) (X : Img) (o : Fin 64) (y x : Fin 128) (ch : Fin 64)
    (n : Fin 16) : EReal :=
  (w (ix4 (n0 := 64) (n1 := 64) (n2 := 4) (n3 := 4) o ch ⟨n.val / 4, by omega⟩ ⟨n.val % 4, by omega⟩) : EReal)
    * patch X y.val x.val n ch

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's padded images. -/
theorem refImg_apply (x : FVec Ideal Cert.ReferenceIdeal.S2x64x128x128 .f32) (V0 : Valuation Cert.ReferenceIdeal.τ Cert.ReferenceIdeal.sig (Elt Ideal))
    (hx : V0 (Proc.devRef .tc Cert.ReferenceIdeal.main_arg0) = x) (b : Fin 2) (ch : Fin 64) (r s : Fin 136) :
    Cert.ReferenceIdeal.Value.res_main_v0 V0 (ix4 (n0 := 2) (n1 := 64) (n2 := 136) (n3 := 136) b ch r s)
      = padded x b ch r.val s.val := by
  subst hx
  exact padded_apply _ _ _ b ch r s

/-- From equal arguments, the reference's result is the kernel's. -/
theorem result_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    result (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (patches (launchContents m' c)) = final m c := by
  funext j
  obtain ⟨b, o, y, x, rfl⟩ : ∃ (b : Fin 2) (o : Fin 64) (y x : Fin 128), j = ix4 b o y x := ⟨j 0, j 1, j 2, j 3, eq_ix4 j⟩
  have hX := refImg_apply _ (launchContents m' c) h0 b
  rw [h1, h2]
  generalize hw : (m ((c.tc : Thread Cert.KernelIdeal.nD Cert.KernelIdeal.τ).loc Cert.KernelIdeal.main_arg1)
    : Vec Ideal Cert.KernelIdeal.S64x64x4x4 .f32) = w
  generalize hb : (m ((c.tc : Thread Cert.KernelIdeal.nD Cert.KernelIdeal.τ).loc Cert.KernelIdeal.main_arg2)
    : Vec Ideal Cert.KernelIdeal.S64 .f32) = bias
  generalize hP : patches (launchContents m' c) = P
  refine (result_apply b w bias P o y x).trans ?_
  subst hP hw hb
  have e : final m c (ix4 (n0 := 2) (n1 := 64) (n2 := 128) (n3 := 128) b o y x) = (∑ k : Fin 1024, entryWeight m c o k
      * patch (entryImg m c b) y.val x.val (sampleOf k) (chanOf k)) + entryBias m c o := rfl
  rw [e]
  rw [entryBias_eq, entryImg_eq]
  refine congrArg₂ (fun p q : EReal => p + q) ?_ rfl
  rw [Finset.sum_congr rfl fun k _ => congrArg (fun z : EReal => z * _) (entryWeight_eq m c o k)]
  refine (Finset.sum_congr rfl fun ch _ => Finset.sum_congr rfl fun n _ => ?_).trans (sum_rows (contribution
    (m ((c.tc : Thread Cert.KernelIdeal.nD Cert.KernelIdeal.τ).loc Cert.KernelIdeal.main_arg1))
    (padded (m ((c.tc : Thread Cert.KernelIdeal.nD Cert.KernelIdeal.τ).loc Cert.KernelIdeal.main_arg0)) b) o y x)).symm
  rw [patches_apply (launchContents m' c) b _ hX]
  rfl

end

end Cert.Prf

end
-- ==== Proof.lean ====
/-
  The certificate: the kernel and the reference run, leave their arguments and counters as they were, and end with the
  same result array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, and its arguments and counters end as they began. -/
theorem frame_reference : Cert.quiescent_ReferenceIdeal (hReferenceIdeal := Cert.ReferenceIdeal.Gen.facts) :=
  fun m ρ _ => (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run (F := Ideal) m ρ)

/-- From equal arguments, the kernel and the reference run and end with equal results. -/
theorem algebraic : Cert.algebraic_KernelIdeal_ReferenceIdeal (hKernelIdeal := Cert.KernelIdeal.Gen.facts)
    (hReferenceIdeal := Cert.ReferenceIdeal.Gen.facts) :=
  fun m ρ m' ρ' _ hm => ⟨fun c => Cert.Prf.final m c,
    (θ_run Cert.KernelIdeal.defs _ _).mono (fun _ h c => ⟨(h c).1.trans (Cert.Prf.arrAt_eq m c), (h c).2⟩)
      (Cert.KernelIdeal.Value.run_blocks (F := Ideal) m ρ),
    (θ_run Cert.ReferenceIdeal.defs _ _).mono
      (fun _ h c => ⟨(h c).1.trans (Cert.Prf.result_eq m m' c (hm c).1 (hm c).2.1 (hm c).2.2), (h c).2⟩)
      (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
